-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000x20 : Shape := ⟨2, ![20000, 20]⟩
abbrev S20x20000 : Shape := ⟨2, ![20, 20000]⟩
abbrev S2x10x20000 : Shape := ⟨3, ![2, 10, 20000]⟩
abbrev S4x20000 : Shape := ⟨2, ![4, 20000]⟩
abbrev S2x20x10x4 : Shape := ⟨4, ![2, 20, 10, 4]⟩
abbrev S2x20x10 : Shape := ⟨3, ![2, 20, 10]⟩
abbrev S1x10x20000 : Shape := ⟨3, ![1, 10, 20000]⟩
abbrev S1x20x10x4 : Shape := ⟨4, ![1, 20, 10, 4]⟩
abbrev S1x20x10 : Shape := ⟨3, ![1, 20, 10]⟩
abbrev S1x20000 : Shape := ⟨2, ![1, 20000]⟩
abbrev S10x20000 : Shape := ⟨2, ![10, 20000]⟩
abbrev S10 : Shape := ⟨1, ![10]⟩
abbrev S10x1 : Shape := ⟨2, ![10, 1]⟩
abbrev S10x4 : Shape := ⟨2, ![10, 4]⟩
abbrev S1x1x10x4 : Shape := ⟨4, ![1, 1, 10, 4]⟩
abbrev S1x1x10 : Shape := ⟨3, ![1, 1, 10]⟩
abbrev S2x10x20x4 : Shape := ⟨4, ![2, 10, 20, 4]⟩
abbrev S400x4 : Shape := ⟨2, ![400, 4]⟩
abbrev S2x10x20 : Shape := ⟨3, ![2, 10, 20]⟩
abbrev S400 : Shape := ⟨1, ![400]⟩
abbrev S20 : Shape := ⟨1, ![20]⟩
abbrev S20x20 : Shape := ⟨2, ![20, 20]⟩

abbrev nBuf : Space → Nat
  | .hbm => 14
  | .vmem => 7
  | .smem => 0
  | _ => 0

abbrev bufTy : (tb : Table) → Fin (tcTables nBuf tb) → BufTy
  | .hbm, ⟨0, _⟩ => ⟨S20000x4, .f32⟩
  | .hbm, ⟨1, _⟩ => ⟨S20000x20, .f32⟩
  | .hbm, ⟨2, _⟩ => ⟨S20x20000, .f32⟩
  | .hbm, ⟨3, _⟩ => ⟨S2x10x20000, .f32⟩
  | .hbm, ⟨4, _⟩ => ⟨S4x20000, .f32⟩
  | .hbm, ⟨5, _⟩ => ⟨S2x20x10x4, .f32⟩
  | .hbm, ⟨6, _⟩ => ⟨S2x20x10, .f32⟩
  | .hbm, ⟨7, _⟩ => ⟨S2x10x20x4, .f32⟩
  | .hbm, ⟨8, _⟩ => ⟨S400x4, .f32⟩
  | .hbm, ⟨9, _⟩ => ⟨S2x10x20, .f32⟩
  | .hbm, ⟨10, _⟩ => ⟨S400, .f32⟩
  | .hbm, ⟨11, _⟩ => ⟨S20, .i32⟩
  | .hbm, ⟨12, _⟩ => ⟨S20x20, .i32⟩
  | .hbm, ⟨13, _⟩ => ⟨S400, .i32⟩
  | .local _ .vmem, ⟨0, _⟩ => ⟨S1x10x20000, .f32⟩
  | .local _ .vmem, ⟨1, _⟩ => ⟨S1x10x20000, .f32⟩
  | .local _ .vmem, ⟨2, _⟩ => ⟨S4x20000, .f32⟩
  | .local _ .vmem, ⟨3, _⟩ => ⟨S1x20x10x4, .f32⟩
  | .local _ .vmem, ⟨4, _⟩ => ⟨S1x20x10x4, .f32⟩
  | .local _ .vmem, ⟨5, _⟩ => ⟨S1x20x10, .f32⟩
  | .local _ .vmem, ⟨6, _⟩ => ⟨S1x20x10, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c20_i32 : BitVec 32 := 20#32
  let v22 : BitVec 32 := Scalar.addi c0_i32 c20_i32
  let c1_i32 : BitVec 32 := 1#32
  ⟨c0_i32, v22, c1_i32⟩
def k0_off1 (k0_t1 : Fin k0_t1_loop.trips) : Fin 4 → Nat :=
  let c0_29 : Index := 0#32
  let c0_i32 : BitVec 32 := 0#32
  let c1_i32 : BitVec 32 := 1#32
  let arg5 : BitVec 32 := Scf.iv c0_i32 c1_i32 k0_t1
  let v105 : Index := Scalar.indexCast arg5
  let c0_30 : Index := 0#32
  let c0_31 : Index := 0#32
  ![0, v105.toNat, 0, 0]
def k0_off2 (k0_t1 : Fin k0_t1_loop.trips) : Fin 3 → Nat :=
  let c0_33 : Index := 0#32
  let c0_i32 : BitVec 32 := 0#32
  let c1_i32 : BitVec 32 := 1#32
  let arg5 : BitVec 32 := Scf.iv c0_i32 c1_i32 k0_t1
  let v112 : Index := Scalar.indexCast arg5
  let c0_34 : Index := 0#32
  ![0, v112.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20x10x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S20000x4 : Shape := ⟨2, ![20000, 4]⟩
abbrev S20000x20 : Shape := ⟨2, ![20000, 20]⟩
abbrev S20x20000 : Shape := ⟨2, ![20, 20000]⟩
abbrev S_ : Shape := ⟨0, ![]⟩
abbrev S20x20x4 : Shape := ⟨3, ![20, 20, 4]⟩
abbrev S20x20 : Shape := ⟨2, ![20, 20]⟩
abbrev S20x1 : Shape := ⟨2, ![20, 1]⟩
abbrev S20 : Shape := ⟨1, ![20]⟩
abbrev S20x4 : Shape := ⟨2, ![20, 4]⟩
abbrev S20000x1 : Shape := ⟨2, ![20000, 1]⟩
abbrev S20000 : Shape := ⟨1, ![20000]⟩
abbrev S1x20000 : Shape := ⟨2, ![1, 20000]⟩
abbrev S1x20x4 : Shape := ⟨3, ![1, 20, 4]⟩
abbrev S1x20 : Shape := ⟨2, ![1, 20]⟩
abbrev S400x4 : Shape := ⟨2, ![400, 4]⟩
abbrev S400 : Shape := ⟨1, ![400]⟩

abbrev nBuf : Space → Nat
  | .hbm => 147
  | .vmem => 0
  | .smem => 0
  | _ => 0

abbrev hbmTy0_0 (i : Nat) : BufTy := match i % 128 with
  | 0 => ⟨S20000x4, .f32⟩
  | 1 => ⟨S20000x20, .f32⟩
  | 2 => ⟨S20x20000, .f32⟩
  | 3 => ⟨S_, .f32⟩
  | 4 => ⟨S20x20000, .f32⟩
  | 5 => ⟨S20x20000, .i1⟩
  | 6 => ⟨S_, .f32⟩
  | 7 => ⟨S_, .f32⟩
  | 8 => ⟨S20x20000, .f32⟩
  | 9 => ⟨S20x20000, .f32⟩
  | 10 => ⟨S20x20000, .i32⟩
  | 11 => ⟨S_, .f32⟩
  | 12 => ⟨S20x20x4, .f32⟩
  | 13 => ⟨S_, .f32⟩
  | 14 => ⟨S20x20, .f32⟩
  | 15 => ⟨S_, .i32⟩
  | 16 => ⟨S20000x4, .f32⟩
  | 17 => ⟨S20x20000, .i32⟩
  | 18 => ⟨S_, .i32⟩
  | 19 => ⟨S20x20000, .f32⟩
  | 20 => ⟨S20x20x4, .f32⟩
  | 21 => ⟨S20x20, .f32⟩
  | 22 => ⟨S_, .i32⟩
  | 23 => ⟨S_, .i1⟩
  | 24 => ⟨S20x1, .f32⟩
  | 25 => ⟨S20x1, .i32⟩
  | 26 => ⟨S20, .f32⟩
  | 27 => ⟨S20, .i32⟩
  | 28 => ⟨S_, .f32⟩
  | 29 => ⟨S20, .f32⟩
  | 30 => ⟨S20, .i1⟩
  | 31 => ⟨S_, .i32⟩
  | 32 => ⟨S20, .i32⟩
  | 33 => ⟨S20, .i1⟩
  | 34 => ⟨S_, .i32⟩
  | 35 => ⟨S20, .i32⟩
  | 36 => ⟨S20, .i32⟩
  | 37 => ⟨S20, .i32⟩
  | 38 => ⟨S20x1, .i32⟩
  | 39 => ⟨S20x4, .f32⟩
  | 40 => ⟨S20x1, .i1⟩
  | 41 => ⟨S20x1, .f32⟩
  | 42 => ⟨S20x1, .f32⟩
  | 43 => ⟨S20x1, .f32⟩
  | 44 => ⟨S20x1, .f32⟩
  | 45 => ⟨S20000x1, .f32⟩
  | 46 => ⟨S20000, .f32⟩
  | 47 => ⟨S20000x1, .f32⟩
  | 48 => ⟨S20000, .f32⟩
  | 49 => ⟨S20000x1, .f32⟩
  | 50 => ⟨S20000, .f32⟩
  | 51 => ⟨S20000x1, .f32⟩
  | 52 => ⟨S20000, .f32⟩
  | 53 => ⟨S1x20000, .f32⟩
  | 54 => ⟨S20x20000, .f32⟩
  | 55 => ⟨S20x20000, .f32⟩
  | 56 => ⟨S20x20000, .f32⟩
  | 57 => ⟨S1x20000, .f32⟩
  | 58 => ⟨S20x20000, .f32⟩
  | 59 => ⟨S20x20000, .f32⟩
  | 60 => ⟨S20x20000, .f32⟩
  | 61 => ⟨S1x20000, .f32⟩
  | 62 => ⟨S20x20000, .f32⟩
  | 63 => ⟨S20x20000, .f32⟩
  | 64 => ⟨S20x20000, .f32⟩
  | 65 => ⟨S1x20000, .f32⟩
  | 66 => ⟨S20x20000, .f32⟩
  | 67 => ⟨S20x20000, .f32⟩
  | 68 => ⟨S20x20000, .f32⟩
  | 69 => ⟨S20x20000, .f32⟩
  | 70 => ⟨S_, .f32⟩
  | 71 => ⟨S20x20000, .f32⟩
  | 72 => ⟨S20x20000, .f32⟩
  | 73 => ⟨S20x20000, .f32⟩
  | 74 => ⟨S_, .f32⟩
  | 75 => ⟨S20x20000, .f32⟩
  | 76 => ⟨S20x20000, .f32⟩
  | 77 => ⟨S20x20000, .f32⟩
  | 78 => ⟨S20x1, .f32⟩
  | 79 => ⟨S_, .f32⟩
  | 80 => ⟨S20x1, .f32⟩
  | 81 => ⟨S20x1, .f32⟩
  | 82 => ⟨S20x1, .f32⟩
  | 83 => ⟨S_, .f32⟩
  | 84 => ⟨S20x1, .f32⟩
  | 85 => ⟨S20x1, .f32⟩
  | 86 => ⟨S20x1, .f32⟩
  | 87 => ⟨S20000, .f32⟩
  | 88 => ⟨S_, .f32⟩
  | 89 => ⟨S20000, .f32⟩
  | 90 => ⟨S20000, .f32⟩
  | 91 => ⟨S20000, .f32⟩
  | 92 => ⟨S_, .f32⟩
  | 93 => ⟨S20000, .f32⟩
  | 94 => ⟨S20000, .f32⟩
  | 95 => ⟨S20000, .f32⟩
  | 96 => ⟨S1x20000, .f32⟩
  | 97 => ⟨S20x20000, .f32⟩
  | 98 => ⟨S20x20000, .f32⟩
  | 99 => ⟨S20x20000, .f32⟩
  | 100 => ⟨S20x20000, .f32⟩
  | 101 => ⟨S_, .f32⟩
  | 102 => ⟨S20x20000, .f32⟩
  | 103 => ⟨S20x20000, .f32⟩
  | 104 => ⟨S20x20000, .f32⟩
  | 105 => ⟨S_, .f32⟩
  | 106 => ⟨S20x20000, .f32⟩
  | 107 => ⟨S20x20000, .i1⟩
  | 108 => ⟨S20x20000, .i1⟩
  | 109 => ⟨S20x20000, .i1⟩
  | 110 => ⟨S_, .f32⟩
  | 111 => ⟨S_, .f32⟩
  | 112 => ⟨S20x20000, .f32⟩
  | 113 => ⟨S20x20000, .f32⟩
  | 114 => ⟨S20x1, .i32⟩
  | 115 => ⟨S20x20000, .i32⟩
  | 116 => ⟨S20x20000, .i1⟩
  | 117 => ⟨S_, .f32⟩
  | 118 => ⟨S_, .f32⟩
  | 119 => ⟨S20x20000, .f32⟩
  | 120 => ⟨S20x20000, .f32⟩
  | 121 => ⟨S20x1, .i1⟩
  | 122 => ⟨S_, .f32⟩
  | 123 => ⟨S_, .f32⟩
  | 124 => ⟨S20x4, .i1⟩
  | 125 => ⟨S20x4, .f32⟩
  | 126 => ⟨S20x4, .f32⟩
  | 127 => ⟨S_, .f32⟩
  | _ => ⟨S20000x4, .f32⟩

abbrev hbmTy0_1 (i : Nat) : BufTy := match i % 128 with
  | 0 => ⟨S_, .f32⟩
  | 1 => ⟨S20, .f32⟩
  | 2 => ⟨S20, .f32⟩
  | 3 => ⟨S1x20x4, .f32⟩
  | 4 => ⟨S_, .i32⟩
  | 5 => ⟨S_, .i32⟩
  | 6 => ⟨S20x20x4, .f32⟩
  | 7 => ⟨S1x20, .f32⟩
  | 8 => ⟨S_, .i32⟩
  | 9 => ⟨S20x20, .f32⟩
  | 10 => ⟨S_, .i32⟩
  | 11 => ⟨S_, .i32⟩
  | 12 => ⟨S20x20x4, .f32⟩
  | 13 => ⟨S400x4, .f32⟩
  | 14 => ⟨S20x20, .f32⟩
  | 15 => ⟨S400, .f32⟩
  | 16 => ⟨S20, .i32⟩
  | 17 => ⟨S20x20, .i32⟩
  | 18 => ⟨S400, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_while0c_c_8 : Ref sig .tc := ⟨.hbm, 22, rfl⟩
abbrev main_while0c_v15 : Ref sig .tc := ⟨.hbm, 23, rfl⟩
abbrev main_while0b_values : Ref sig .tc := ⟨.hbm, 24, rfl⟩
abbrev main_while0b_indices : Ref sig .tc := ⟨.hbm, 25, rfl⟩
abbrev main_while0b_v15 : Ref sig .tc := ⟨.hbm, 26, rfl⟩
abbrev main_while0b_v16 : Ref sig .tc := ⟨.hbm, 27, rfl⟩
abbrev main_while0b_cst_8 : Ref sig .tc := ⟨.hbm, 28, rfl⟩
abbrev main_while0b_v17 : Ref sig .tc := ⟨.hbm, 29, rfl⟩
abbrev main_while0b_v18 : Ref sig .tc := ⟨.hbm, 30, rfl⟩
abbrev main_while0b_c_9 : Ref sig .tc := ⟨.hbm, 31, rfl⟩
abbrev main_while0b_v19 : Ref sig .tc := ⟨.hbm, 32, rfl⟩
abbrev main_while0b_v20 : Ref sig .tc := ⟨.hbm, 33, rfl⟩
abbrev main_while0b_c_10 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_v25 : Ref sig .tc := ⟨.hbm, 39, rfl⟩
abbrev main_while0b_v26 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_v36 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_v40 : Ref sig .tc := ⟨.hbm, 54, rfl⟩
abbrev main_while0b_v41 : Ref sig .tc := ⟨.hbm, 55, rfl⟩
abbrev main_while0b_v42 : Ref sig .tc := ⟨.hbm, 56, rfl⟩
abbrev main_while0b_v43 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_v47 : Ref sig .tc := ⟨.hbm, 61, rfl⟩
abbrev main_while0b_v48 : Ref sig .tc := ⟨.hbm, 62, rfl⟩
abbrev main_while0b_v49 : Ref sig .tc := ⟨.hbm, 63, rfl⟩
abbrev main_while0b_v50 : Ref sig .tc := ⟨.hbm, 64, rfl⟩
abbrev main_while0b_v51 : Ref sig .tc := ⟨.hbm, 65, rfl⟩
abbrev main_while0b_v52 : Ref sig .tc := ⟨.hbm, 66, rfl⟩
abbrev main_while0b_v53 : Ref sig .tc := ⟨.hbm, 67, rfl⟩
abbrev main_while0b_v54 : Ref sig .tc := ⟨.hbm, 68, rfl⟩
abbrev main_while0b_v55 : Ref sig .tc := ⟨.hbm, 69, rfl⟩
abbrev main_while0b_cst_11 : Ref sig .tc := ⟨.hbm, 70, rfl⟩
abbrev main_while0b_v56 : Ref sig .tc := ⟨.hbm, 71, rfl⟩
abbrev main_while0b_v57 : Ref sig .tc := ⟨.hbm, 72, rfl⟩
abbrev main_while0b_v58 : Ref sig .tc := ⟨.hbm, 73, rfl⟩
abbrev main_while0b_cst_12 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_cst_13 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_cst_14 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_cst_15 : Ref sig .tc := ⟨.hbm, 88, rfl⟩
abbrev main_while0b_v70 : Ref sig .tc := ⟨.hbm, 89, rfl⟩
abbrev main_while0b_v71 : Ref sig .tc := ⟨.hbm, 90, rfl⟩
abbrev main_while0b_v72 : Ref sig .tc := ⟨.hbm, 91, rfl⟩
abbrev main_while0b_cst_16 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_cst_17 : Ref sig .tc := ⟨.hbm, 101, rfl⟩
abbrev main_while0b_v81 : Ref sig .tc := ⟨.hbm, 102, rfl⟩
abbrev main_while0b_v82 : Ref sig .tc := ⟨.hbm, 103, rfl⟩
abbrev main_while0b_v83 : Ref sig .tc := ⟨.hbm, 104, rfl⟩
abbrev main_while0b_cst_18 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_cst_19 : Ref sig .tc := ⟨.hbm, 110, rfl⟩
abbrev main_while0b_call1_v0 : Ref sig .tc := ⟨.hbm, 111, rfl⟩
abbrev main_while0b_call1_v1 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_cst_20 : Ref sig .tc := ⟨.hbm, 117, rfl⟩
abbrev main_while0b_call2_v0 : Ref sig .tc := ⟨.hbm, 118, rfl⟩
abbrev main_while0b_call2_v1 : Ref sig .tc := ⟨.hbm, 119, rfl⟩
abbrev main_while0b_v92 : Ref sig .tc := ⟨.hbm, 120, rfl⟩
abbrev main_while0b_v93 : Ref sig .tc := ⟨.hbm, 121, rfl⟩
abbrev main_while0b_cst_21 : Ref sig .tc := ⟨.hbm, 122, rfl⟩
abbrev main_while0b_call3_v0 : Ref sig .tc := ⟨.hbm, 123, rfl⟩
abbrev main_while0b_call3_v1 : Ref sig .tc := ⟨.hbm, 124, rfl⟩
abbrev main_while0b_call3_v2 : Ref sig .tc := ⟨.hbm, 125, rfl⟩
abbrev main_while0b_v94 : Ref sig .tc := ⟨.hbm, 126, rfl⟩
abbrev main_while0b_cst_22 : Ref sig .tc := ⟨.hbm, 127, rfl⟩
abbrev main_while0b_call4_v0 : Ref sig .tc := ⟨.hbm, 128, rfl⟩
abbrev main_while0b_call4_v1 : Ref sig .tc := ⟨.hbm, 129, rfl⟩
abbrev main_while0b_v95 : Ref sig .tc := ⟨.hbm, 130, rfl⟩
abbrev main_while0b_call5_v0 : Ref sig .tc := ⟨.hbm, 131, rfl⟩
abbrev main_while0b_call5_c : Ref sig .tc := ⟨.hbm, 132, rfl⟩
abbrev main_while0b_call5_c_0 : Ref sig .tc := ⟨.hbm, 133, rfl⟩
abbrev main_while0b_v96 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_v97 : Ref sig .tc := ⟨.hbm, 137, rfl⟩
abbrev main_while0b_c_23 : Ref sig .tc := ⟨.hbm, 138, rfl⟩
abbrev main_while0b_v98 : Ref sig .tc := ⟨.hbm, 139, rfl⟩
abbrev main_v8 : Ref sig .tc := ⟨.hbm, 140, rfl⟩
abbrev main_v9 : Ref sig .tc := ⟨.hbm, 141, rfl⟩
abbrev main_v10 : Ref sig .tc := ⟨.hbm, 142, rfl⟩
abbrev main_v11 : Ref sig .tc := ⟨.hbm, 143, rfl⟩
abbrev main_v12 : Ref sig .tc := ⟨.hbm, 144, rfl⟩
abbrev main_v13 : Ref sig .tc := ⟨.hbm, 145, rfl⟩
abbrev main_v14 : Ref sig .tc := ⟨.hbm, 146, rfl⟩

abbrev nD : Nat := 1
abbrev τ : Topo := Topo.v7x

variable {F : FTy → Type} [FloatOps F]

abbrev main_while0_count : Scf.Loop 32 := ⟨0#32, 20#32, 1#32⟩
-- ==== Proof.Nms.Frames.lean ====
/- The three frames: each program ends with its arguments as they were and every counter at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : @Cert.quiescent_Kernel Cert.Kernel.Gen.facts :=
  fun m ρ _ => Cert.Kernel.Gen.frame m ρ

theorem frame_ideal : @Cert.quiescent_KernelIdeal Cert.KernelIdeal.Gen.facts :=
  fun m ρ _ => Cert.KernelIdeal.Gen.frame m ρ

/-- The reference has no counter, so its counters are at zero. -/
theorem frame_reference : @Cert.quiescent_ReferenceIdeal Cert.ReferenceIdeal.Gen.facts := by
  intro m ρ _
  refine (θ_run _ _ _).mono (fun r h => ⟨fun c => (h c).2.2.2, ?_⟩) (Cert.ReferenceIdeal.Value.run (F := Ideal) m ρ)
  funext x
  rcases x with ⟨t, s | s⟩
  · exact absurd s.isLt (Nat.not_lt_zero _)
  · exact absurd s.isLt (Nat.not_lt_zero _)

end Cert.Proof

end
-- ==== Proof.Nms.Row.lean ====
/- One class's row of scores: the first position of its greatest score, and the ways the two programs find it. -/
module

public import proofs.«01_k».proof.Defs
public import Idealize.ShloMosaic.Lib.Pointwise
public import Idealize.ShloMosaic.Lib.SortFacts

@[expose] public section

noncomputable section

namespace Cert.Proof

open Idealize.ShloMosaic

/-- `i` is the first position of the greatest entry of `s`. -/
def IsFirst {n : ℕ} (s : Fin n → EReal) (i : Fin n) : Prop := ∀ k, s k ≤ s i ∧ (k < i → s k < s i)

theorem IsFirst.unique {n : ℕ} {s : Fin n → EReal} {i j : Fin n} (hi : IsFirst s i) (hj : IsFirst s j) : i = j := by
  rcases lt_trichotomy i j with h | h | h
  · exact absurd ((hj i).2 h) (not_lt.mpr (hi j).1)
  · exact h
  · exact absurd ((hi j).2 h) (not_lt.mpr (hj i).1)

/-- Where the stable descending sort of a row takes its head from. -/
def first {n : ℕ} [NeZero n] (s : Fin n → EReal) : Fin n := sortedFrom (fun k k' => decide (s k' < s k)) 0

/-- The head of the stable descending sort of an ascending list of positions is the first position of the greatest entry. -/
theorem stableSort_head {n : ℕ} (s : Fin n → EReal) (l : List (Fin n)) (hl : l.Pairwise (· < ·)) (hne : l ≠ []) :
    ∃ h t, stableSort (fun k k' => decide (s k' < s k)) l = h :: t ∧ h ∈ l ∧ ∀ x ∈ l, s x ≤ s h ∧ (x < h → s x < s h) := by
  induction l with
  | nil => exact absurd rfl hne
  | cons a l ih =>
    rw [List.pairwise_cons] at hl
    rcases l with _ | ⟨b, l⟩
    · exact ⟨a, [], rfl, by simp, fun x hx => by
        rw [List.mem_singleton] at hx; subst hx; exact ⟨le_rfl, fun h => absurd h (lt_irrefl _)⟩⟩
    · obtain ⟨h, t, he, hm, hh⟩ := ih hl.2 (by simp)
      rw [stableSort, he, insertBefore]
      by_cases hs : s a < s h
      · refine ⟨h, _, if_pos (by simpa using hs), List.mem_cons_of_mem _ hm, fun x hx => ?_⟩
        rcases List.mem_cons.mp hx with rfl | hx
        · exact ⟨hs.le, fun _ => hs⟩
        · exact hh x hx
      · refine ⟨a, _, if_neg (by simpa using hs), List.mem_cons_self, fun x hx => ?_⟩
        rcases List.mem_cons.mp hx with rfl | hx
        · exact ⟨le_rfl, fun h => absurd h (lt_irrefl _)⟩
        · exact ⟨(hh x hx).1.trans (not_lt.mp hs), fun h' => absurd h' (not_lt.mpr (hl.1 x hx).le)⟩

theorem first_isFirst {n : ℕ} [NeZero n] (s : Fin n → EReal) : IsFirst s (first s) := by
  have hp : (List.finRange n).Pairwise (· < ·) := List.pairwise_lt_finRange n
  have hne : List.finRange n ≠ [] := fun h => NeZero.ne n (by simpa using congrArg List.length h)
  obtain ⟨h, t, he, -, hh⟩ := stableSort_head s _ hp hne
  have e : first s = h := by
    have hq : sortPositions n (fun k k' => decide (s k' < s k)) = h :: t := he
    unfold first sortedFrom
    rw [List.get_eq_getElem, List.getElem_of_eq hq]
    rfl
  rw [e]
  exact fun k => hh k (List.mem_finRange k)

/-- The greatest entry, taken as a running maximum. -/
theorem fold_max_eq {n : ℕ} (s : Fin n → EReal) (i : Fin n) (hi : IsFirst s i) :
    (Finset.univ : Finset (Fin n)).fold max ⊥ s = s i :=
  le_antisymm ((Finset.fold_max_le _).mpr ⟨bot_le, fun k _ => (hi k).1⟩)
    ((Finset.le_fold_max _).mpr (Or.inr ⟨i, Finset.mem_univ _, le_rfl⟩))

theorem toInt_minsi (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

theorem toInt_ofNat_small (k : ℕ) (h : k ≤ 20000) : (BitVec.ofNat 32 k).toInt = (k : ℤ) := by
  rw [BitVec.toInt_ofNat']
  exact Int.bmod_eq_of_le (by omega) (by omega)

/-- The first position of the greatest entry, taken as the least of the positions that hold it. -/
theorem fold_min_eq (s : Fin 20000 → EReal) (i : Fin 20000) (hi : IsFirst s i) (f : Fin 20000 → BitVec 32)
    (h1 : ∀ k, s k = s i → f k = BitVec.ofNat 32 k.val) (h2 : ∀ k, s k ≠ s i → f k = 20000#32) :
    (Finset.univ : Finset (Fin 20000)).fold IntOp.minsi 2147483647#32 f = BitVec.ofNat 32 i.val := by
  apply BitVec.eq_of_toInt_eq
  rw [← Finset.fold_hom (op := IntOp.minsi) (op' := min) (m := BitVec.toInt) toInt_minsi]
  rw [toInt_ofNat_small i.val (by omega), show (2147483647#32 : BitVec 32).toInt = 2147483647 from rfl]
  refine le_antisymm ((Finset.fold_min_le _).mpr (Or.inr ⟨i, Finset.mem_univ _, by rw [h1 i rfl, toInt_ofNat_small i.val (by omega)]⟩))
    ((Finset.le_fold_min _).mpr ⟨by omega, fun k _ => ?_⟩)
  by_cases he : s k = s i
  · rw [h1 k he, toInt_ofNat_small k.val (by omega)]
    by_contra hlt
    have : k < i := by rw [Fin.lt_def]; omega
    exact absurd he ((hi k).2 this).ne
  · rw [h2 k he, toInt_ofNat_small 20000 le_rfl]; omega

/-- A sum with one entry that is not zero. -/
theorem sum_pick {n : ℕ} (f : Fin n → EReal) (i : Fin n) : (∑ k : Fin n, if k = i then f k else 0) = f i := by
  rw [Finset.sum_ite_eq' Finset.univ i f, if_pos (Finset.mem_univ _)]

theorem ofNat_inj (a b : Fin 20000) : (BitVec.ofNat 32 a.val = BitVec.ofNat 32 b.val) ↔ a = b := by
  constructor
  · intro h
    have := congrArg BitVec.toInt h
    rw [toInt_ofNat_small _ (by omega), toInt_ofNat_small _ (by omega)] at this
    exact Fin.ext (by exact_mod_cast this)
  · rintro rfl; rfl

/-! One round on one class's row: `b c j` is coordinate `c` of box `j`, `s j` its score so far. -/

abbrev Boxes := Fin 4 → Fin 20000 → EReal
abbrev Scores := Fin 20000 → EReal

/-- What a suppressed box's score becomes. -/
def low : EReal := Ideal.ofBits .f32 0xF149F2CA#32

/-- A box's area, an inverted side counting as nothing. -/
def area (p : Fin 4 → EReal) : EReal := max (p 2 - p 0) 0 * max (p 3 - p 1) 0

/-- The area two boxes share. -/
def shared (p q : Fin 4 → EReal) : EReal :=
  max (min (p 2) (q 2) - max (p 0) (q 0)) 0 * max (min (p 3) (q 3) - max (p 1) (q 1)) 0

/-- Two boxes' shared area over the area of their union, the latter kept away from zero. -/
def overlap (p q : Fin 4 → EReal) : EReal :=
  Ideal.div (shared p q) (max (area p + area q - shared p q) (Ideal.ofBits .f32 0x3089705F#32))

/-- The round's box counts when its score is not a suppressed one. -/
def Kept (s : Scores) : Prop := Ideal.ofBits .f32 0xF0C9F2CA#32 < s (first s)

/-- The round's box. -/
def picked (b : Boxes) (s : Scores) : Fin 4 → EReal := fun c => b c (first s)

open Classical in
/-- The scores after the round: the round's box, and when it counts each box that overlaps it by more than a half, are suppressed. -/
def next (b : Boxes) (s : Scores) : Scores := fun j =>
  if j = first s ∨ (Kept s ∧ Ideal.ofBits .f32 0x3F000000#32 < overlap (picked b s) (fun c => b c j)) then low else s j

open Classical in
/-- The box the round puts out. -/
def outBox (b : Boxes) (s : Scores) (c : Fin 4) : EReal := if Kept s then picked b s c else 0

open Classical in
/-- The score the round puts out. -/
def outScore (s : Scores) : EReal := if Kept s then s (first s) else 0

/-- The scores before round `k`. -/
def rounds (b : Boxes) (s : Scores) : ℕ → Scores
  | 0 => s
  | k + 1 => next b (rounds b s k)

/-- The scores a class starts from: those below a half are suppressed. -/
def start (x : Scores) : Scores := fun j => if Ideal.ofBits .f32 0x3F000000#32 ≤ x j then x j else low

end Cert.Proof

end
-- ==== Proof.Nms.KernelTrip.lean ====
/- One trip of the kernel's loop, read on each of its ten rows of scores. -/
module

public import proofs.«01_k».proof.Proof.Nms.Row
public import proofs.«01_k».proof.Proof.Gen.KernelIdeal.Skeleton
public import Idealize.ShloMosaic.Lib.Pointwise

@[expose] public section

noncomputable section

namespace Cert.Proof

open Idealize.ShloMosaic Cert.KernelIdeal Cert.KernelIdeal.Gen

/-- Row `r` of a block of scores. -/
def rowOf (acc : FVec Ideal S10x20000 .f32) (r : Fin 10) : Scores := fun j => acc (ix2 r j)

/-- The pattern a running maximum starts from denotes the least extended real. -/
theorem ofBits_bot : Ideal.ofBits .f32 4286578688#32 = ⊥ := by
  simp [Ideal.ofBits, Ideal.ieee]

theorem pay7_apply (acc : FVec Ideal S10x20000 .f32) (r : Fin 10) :
    k0_pay7 acc (ix2 r 0) = rowOf acc r (first (rowOf acc r)) := by
  pointwise [k0_pay7]
  rw [ofBits_bot]
  exact fold_max_eq _ _ (first_isFirst (rowOf acc r))

theorem select_ofBool {α : Type} (p : Prop) [Decidable p] (x y : α) :
    Scalar.select (BitVec.ofBool (decide p)) x y = if p then x else y := by
  unfold Scalar.select
  by_cases h : p <;> simp [h]

theorem select_supp {α : Type} (p q e : Prop) [Decidable p] [Decidable q] [Decidable e] [Decidable (e ∨ (q ∧ p))] (x y : α) :
    Scalar.select (IntOp.ori (IntOp.andi (BitVec.ofBool (decide p)) (BitVec.ofBool (decide q))) (BitVec.ofBool (decide e))) x y
      = if e ∨ (q ∧ p) then x else y := by
  unfold Scalar.select IntOp.ori IntOp.andi
  by_cases hp : p <;> by_cases hq : q <;> by_cases he : e <;> simp [hp, hq, he]

theorem pay8_apply (hi : S10x20000.Iotas .tc 32 [1]) (acc : FVec Ideal S10x20000 .f32) (r : Fin 10) (j : Fin 20000) :
    k0_pay8 (iota .tc S10x20000 32 [1] hi) acc (ix2 r j) = BitVec.ofBool (decide (j = first (rowOf acc r))) := by
  pointwise [k0_pay8]
  rw [pay7_apply]
  refine (congrArg (IntOp.cmpi .eq _)
    (fold_min_eq (rowOf acc r) _ (first_isFirst (rowOf acc r)) _ (fun k hk => if_pos hk) (fun k hk => if_neg hk))).trans ?_
  unfold IntOp.cmpi
  dsimp only
  congr 1
  rw [Bool.eq_iff_iff, beq_iff_eq, decide_eq_true_iff]
  exact ofNat_inj j _

theorem sum_select (m : IVec S10x20000 1) (r : Fin 10) (i : Fin 20000) (hm : ∀ j, m (ix2 r j) = BitVec.ofBool (decide (j = i)))
    (v : FVec Ideal S1x20000 .f32) : ∑ x : Fin 20000, Scalar.select (m (ix2 r x)) (v (ix2 0 x)) (0 : EReal) = v (ix2 0 i) := by
  simp only [hm, select_ofBool]
  exact sum_pick (fun k => v (ix2 0 k)) i

section Picked

variable (hi : S10x20000.Iotas .tc 32 [1]) (v : FVec Ideal S1x20000 .f32) (acc : FVec Ideal S10x20000 .f32) (r : Fin 10)

theorem pay9_apply : k0_pay9 v (iota .tc S10x20000 32 [1] hi) acc (ix2 r 0) = v (ix2 0 (first (rowOf acc r))) := by
  pointwise [k0_pay9]
  exact sum_select _ r _ (pay8_apply hi acc r) v

theorem pay10_apply : k0_pay10 v (iota .tc S10x20000 32 [1] hi) acc (ix2 r 0) = v (ix2 0 (first (rowOf acc r))) := by
  pointwise [k0_pay10]
  exact sum_select _ r _ (pay8_apply hi acc r) v

theorem pay11_apply : k0_pay11 v (iota .tc S10x20000 32 [1] hi) acc (ix2 r 0) = v (ix2 0 (first (rowOf acc r))) := by
  pointwise [k0_pay11]
  exact sum_select _ r _ (pay8_apply hi acc r) v

theorem pay12_apply : k0_pay12 v (iota .tc S10x20000 32 [1] hi) acc (ix2 r 0) = v (ix2 0 (first (rowOf acc r))) := by
  pointwise [k0_pay12]
  exact sum_select _ r _ (pay8_apply hi acc r) v

end Picked

open Classical in
theorem pay14_apply (acc : FVec Ideal S10x20000 .f32) (r : Fin 10) :
    k0_pay14 acc (ix2 r 0) = BitVec.ofBool (decide (Kept (rowOf acc r))) := by
  pointwise [k0_pay14]
  rw [pay7_apply]
  unfold Kept
  congr

theorem pay6_apply (v : FVec Ideal S1x10x20000 .f32) (r : Fin 10) :
    rowOf (k0_pay6 (F := Ideal) v) r = start (fun j => v (ix3 0 r j)) := by
  funext j
  unfold rowOf start low
  pointwise [k0_pay6]

theorem keep_mul (p : Prop) [Decidable p] (x : EReal) :
    x * (FloatOps.sitofp (F := Ideal) FTy.f32 (BitVec.setWidth 32 (BitVec.ofBool (decide p))) : EReal) = if p then x else 0 := by
  show x * ((((BitVec.setWidth 32 (BitVec.ofBool (decide p))).toInt : ℝ)) : EReal) = _
  by_cases h : p <;> simp [h]

/-- The boxes of a block of four coordinate rows. -/
def boxesOf (v0 v2 v4 v6 : FVec Ideal S1x20000 .f32) : Boxes :=
  ![fun j => v0 (ix2 0 j), fun j => v2 (ix2 0 j), fun j => v4 (ix2 0 j), fun j => v6 (ix2 0 j)]

/-- What a trip stores as the round's box. -/
theorem pay18_apply (hi : S10x20000.Iotas .tc 32 [1]) (v0 v2 v4 v6 : FVec Ideal S1x20000 .f32) (acc : FVec Ideal S10x20000 .f32)
    (r : Fin 10) (c : Fin 4) :
    k0_pay18 (k0_pay9 v0 (iota .tc S10x20000 32 [1] hi) acc) (k0_pay10 v2 (iota .tc S10x20000 32 [1] hi) acc)
      (k0_pay11 v4 (iota .tc S10x20000 32 [1] hi) acc) (k0_pay12 v6 (iota .tc S10x20000 32 [1] hi) acc) (k0_pay14 acc) (ix4 0 0 r c)
      = outBox (boxesOf v0 v2 v4 v6) (rowOf acc r) c := by
  pointwise [k0_pay18]
  rw [pay14_apply, keep_mul]
  unfold outBox picked
  congr 1
  fin_cases c
  · exact pay9_apply hi v0 acc r
  · exact pay10_apply hi v2 acc r
  · exact pay11_apply hi v4 acc r
  · exact pay12_apply hi v6 acc r

/-- What a trip stores as the round's score. -/
theorem pay19_apply (acc : FVec Ideal S10x20000 .f32) (r : Fin 10) :
    k0_pay19 (k0_pay7 acc) (k0_pay14 acc) (ix3 0 0 r) = outScore (rowOf acc r) := by
  pointwise [k0_pay19]
  rw [pay14_apply, pay7_apply, select_ofBool]
  rfl

/-- The scores a trip hands the next. -/
theorem pay17_apply (hi : S10x20000.Iotas .tc 32 [1]) (v0 v2 v4 v6 : FVec Ideal S1x20000 .f32) (acc : FVec Ideal S10x20000 .f32)
    (r : Fin 10) :
    rowOf (k0_pay17 (F := Ideal) v2 v4 v6 (k0_pay5 v0 v2 v4 v6) acc (k0_pay8 (iota .tc S10x20000 32 [1] hi) acc)
      (k0_pay10 v2 (iota .tc S10x20000 32 [1] hi) acc) (k0_pay11 v4 (iota .tc S10x20000 32 [1] hi) acc)
      (k0_pay12 v6 (iota .tc S10x20000 32 [1] hi) acc) (k0_pay13 v0 v2 v4 v6 (iota .tc S10x20000 32 [1] hi) acc)
      (k0_pay14 acc) (k0_pay15 v0 (iota .tc S10x20000 32 [1] hi) acc) (k0_pay16 v0)) r
      = next (boxesOf v0 v2 v4 v6) (rowOf acc r) := by
  funext j
  show k0_pay17 (F := Ideal) _ _ _ _ _ _ _ _ _ _ _ _ _ (ix2 r j) = _
  pointwise [k0_pay17, k0_pay13, k0_pay15, k0_pay16, k0_pay5, k0_pay1, k0_pay2, k0_pay3, k0_pay4]
  rw [pay14_apply, pay8_apply, pay9_apply, pay10_apply, pay11_apply, pay12_apply]
  classical
  rw [select_supp]
  unfold next
  exact if_congr Iff.rfl rfl rfl
end Cert.Proof

end
-- ==== Proof.Nms.KernelOut.lean ====
/- What the kernel's twenty trips leave in the output blocks, read off the row model. -/
module

public import proofs.«01_k».proof.Proof.Nms.KernelTrip
public import proofs.«01_k».proof.Proof.Gen.KernelIdeal.Frame
public import Idealize.ShloMosaic.Lib.Pipeline.Value

@[expose] public section

set_option maxRecDepth 16384

noncomputable section

namespace Cert.Proof

open Idealize.ShloMosaic Idealize.ShloMosaic.TcCoe Idealize.ShloMosaic.Tactic Cert.KernelIdeal Cert.KernelIdeal.Gen
open Idealize.SL Idealize.SL.Sem

/-- What the trips store as boxes, at an index of the block: round, row and coordinate. -/
def boxesAt (b : Boxes) (init : FVec Ideal S10x20000 .f32) (y : S1x20x10x4.Idx) : EReal :=
  outBox b (rounds b (rowOf init (y 2)) (y 1).val) (y 3)

/-- What the trips store as scores, at an index of the block: round and row. -/
def scoresAt (b : Boxes) (init : FVec Ideal S10x20000 .f32) (y : S1x20x10.Idx) : EReal :=
  outScore (rounds b (rowOf init (y 2)) (y 1).val)

theorem boxesAt_of (b : Boxes) (init : FVec Ideal S10x20000 .f32) (y : S1x20x10x4.Idx) (k : ℕ) (r : Fin 10) (d : Fin 4)
    (h1 : (y 1).val = k) (h2 : y 2 = r) (h3 : y 3 = d) : boxesAt b init y = outBox b (rounds b (rowOf init r) k) d := by
  subst h1 h2 h3; rfl

theorem scoresAt_of (b : Boxes) (init : FVec Ideal S10x20000 .f32) (y : S1x20x10.Idx) (k : ℕ) (r : Fin 10)
    (h1 : (y 1).val = k) (h2 : y 2 = r) : scoresAt b init y = outScore (rounds b (rowOf init r) k) := by
  subst h1 h2; rfl

theorem pay1_self (v : Vec Ideal S1x20000 .f32) : k0_pay1 (F := Ideal) v = v := by unfold k0_pay1; exact shapeCast_self _ _
theorem pay2_self (v : Vec Ideal S1x20000 .f32) : k0_pay2 (F := Ideal) v = v := by unfold k0_pay2; exact shapeCast_self _ _
theorem pay3_self (v : Vec Ideal S1x20000 .f32) : k0_pay3 (F := Ideal) v = v := by unfold k0_pay3; exact shapeCast_self _ _
theorem pay4_self (v : Vec Ideal S1x20000 .f32) : k0_pay4 (F := Ideal) v = v := by unfold k0_pay4; exact shapeCast_self _ _

section Trip

variable (𝒱 : Variants) (c : Dev nD) (bd : Option 𝒱.V) (i : grid0.Coords) (arg1 : Memref sig .tc .vmem S1x10x20000 .f32)
  (harg1 : arg1.IsWhole) (arg2 : Memref sig .tc .vmem S4x20000 .f32) (harg2 : arg2.IsWhole)
  (arg3 : Memref sig .tc .vmem S1x20x10x4 .f32) (harg3 : arg3.IsWhole) (arg4 : Memref sig .tc .vmem S1x20x10 .f32) (harg4 : arg4.IsWhole)
  (v0 v2 v4 v6 : Vec Ideal S1x20000 .f32) (hi : S10x20000.Iotas .tc 32 [1]) (k : Fin k0_t1_loop.trips) (acc : FVec Ideal S10x20000 .f32)

/-- A trip's scores, row by row. -/
theorem trip_scores (r : Fin 10) :
    rowOf ((trip_k0_t1 (F := Ideal) 𝒱 c bd i arg1 harg1 arg2 harg2 arg3 harg3 arg4 harg4 v0 v2 v4 v6 (iota .tc S10x20000 32 [1] hi) k).1 acc) r
      = next (boxesOf v0 v2 v4 v6) (rowOf acc r) := by
  unfold trip_k0_t1
  dsimp only
  sl_unfold_words
  simp only [pay1_self, pay2_self, pay3_self, pay4_self]
  exact pay17_apply hi v0 v2 v4 v6 acc r

/-- What a trip stores as boxes. -/
theorem trip_boxes (init : FVec Ideal S10x20000 .f32)
    (hacc : ∀ r, rowOf acc r = rounds (boxesOf v0 v2 v4 v6) (rowOf init r) k.val) :
    ∀ p ∈ (trip_k0_t1 (F := Ideal) 𝒱 c bd i arg1 harg1 arg2 harg2 arg3 harg3 arg4 harg4 v0 v2 v4 v6 (iota .tc S10x20000 32 [1] hi) k).2.1 acc,
      ∀ x, p.2 x = boxesAt (boxesOf v0 v2 v4 v6) init (p.1.emb x) := by
  unfold trip_k0_t1
  dsimp only
  intro p hp
  rw [List.mem_singleton] at hp
  subst hp
  intro x
  have hx0 : (x 0).val < 1 := (x 0).isLt
  have hx1 : (x 1).val < 1 := (x 1).isLt
  obtain ⟨r, d, rfl⟩ : ∃ (r : Fin 10) (d : Fin 4), x = ix4 (0 : Fin 1) (0 : Fin 1) r d := ⟨x 2, x 3, by
    funext a; fin_cases a
    · exact Fin.ext (show (x 0).val = 0 by omega)
    · exact Fin.ext (show (x 1).val = 0 by omega)
    · rfl
    · rfl⟩
  have ho := k0_off1_eq k
  rw [boxesAt_of _ _ _ k.val r d ?_ ?_ ?_, ← hacc r]
  · simp only [trip_k0_t1.sl.r, trip_k0_t1.sl.r_1, trip_k0_t1.sl.r_2, trip_k0_t1.sl.r_3, pay1_self, pay2_self, pay3_self, pay4_self]
    exact pay18_apply hi v0 v2 v4 v6 acc r d
  · show k0_off1 k 1 + 1 * 0 = _
    rw [ho]; rfl
  · refine Fin.ext (show k0_off1 k 2 + 1 * r.val = _ from ?_)
    rw [ho]; show 0 + 1 * r.val = r.val; omega
  · refine Fin.ext (show k0_off1 k 3 + 1 * d.val = _ from ?_)
    rw [ho]; show 0 + 1 * d.val = d.val; omega

/-- What a trip stores as scores. -/
theorem trip_out (init : FVec Ideal S10x20000 .f32)
    (hacc : ∀ r, rowOf acc r = rounds (boxesOf v0 v2 v4 v6) (rowOf init r) k.val) :
    ∀ p ∈ (trip_k0_t1 (F := Ideal) 𝒱 c bd i arg1 harg1 arg2 harg2 arg3 harg3 arg4 harg4 v0 v2 v4 v6 (iota .tc S10x20000 32 [1] hi) k).2.2.1 acc,
      ∀ x, p.2 x = scoresAt (boxesOf v0 v2 v4 v6) init (p.1.emb x) := by
  unfold trip_k0_t1
  dsimp only
  intro p hp
  rw [List.mem_singleton] at hp
  subst hp
  intro x
  have hx0 : (x 0).val < 1 := (x 0).isLt
  have hx1 : (x 1).val < 1 := (x 1).isLt
  obtain ⟨r, rfl⟩ : ∃ r : Fin 10, x = ix3 (0 : Fin 1) (0 : Fin 1) r := ⟨x 2, by
    funext a; fin_cases a
    · exact Fin.ext (show (x 0).val = 0 by omega)
    · exact Fin.ext (show (x 1).val = 0 by omega)
    · rfl⟩
  have ho := k0_off2_eq k
  rw [scoresAt_of _ _ _ k.val r ?_ ?_, ← hacc r]
  · dsimp only
    exact pay19_apply acc r
  · show k0_off2 k 1 + 1 * 0 = _
    rw [ho]; rfl
  · refine Fin.ext (show k0_off2 k 2 + 1 * r.val = _ from ?_)
    rw [ho]; show 0 + 1 * r.val = r.val; omega

/-- After `n` trips: each row's scores are those before round `n`, and every store so far is as the row model has it. -/
theorem trips_state (init : FVec Ideal S10x20000 .f32) (n : ℕ) (hn : n ≤ k0_t1_loop.trips) :
    (∀ r, rowOf (st_k0_t1 (F := Ideal) 𝒱 c bd i arg1 harg1 arg2 harg2 arg3 harg3 arg4 harg4 v0 v2 v4 v6 (iota .tc S10x20000 32 [1] hi) init n).1 r
        = rounds (boxesOf v0 v2 v4 v6) (rowOf init r) n)
    ∧ (∀ p ∈ (st_k0_t1 (F := Ideal) 𝒱 c bd i arg1 harg1 arg2 harg2 arg3 harg3 arg4 harg4 v0 v2 v4 v6 (iota .tc S10x20000 32 [1] hi) init n).2.1,
        ∀ x, p.2 x = boxesAt (boxesOf v0 v2 v4 v6) init (p.1.emb x))
    ∧ (∀ p ∈ (st_k0_t1 (F := Ideal) 𝒱 c bd i arg1 harg1 arg2 harg2 arg3 harg3 arg4 harg4 v0 v2 v4 v6 (iota .tc S10x20000 32 [1] hi) init n).2.2,
        ∀ x, p.2 x = scoresAt (boxesOf v0 v2 v4 v6) init (p.1.emb x)) := by
  induction n with
  | zero =>
    refine ⟨fun r => rfl, fun p hp => absurd hp (List.not_mem_nil), fun p hp => absurd hp (List.not_mem_nil)⟩
  | succ n ih =>
    obtain ⟨h1, h2, h3⟩ := ih (Nat.le_of_succ_le hn)
    rw [show n + 1 = (⟨n, hn⟩ : Fin k0_t1_loop.trips).val + 1 from rfl, st_k0_t1_succ]
    refine ⟨fun r => ?_, fun p hp => ?_, fun p hp => ?_⟩
    · refine (trip_scores 𝒱 c bd i arg1 harg1 arg2 harg2 arg3 harg3 arg4 harg4 v0 v2 v4 v6 hi _ _ r).trans ?_
      rw [h1]; rfl
    · rcases List.mem_append.mp hp with hp | hp
      · exact trip_boxes 𝒱 c bd i arg1 harg1 arg2 harg2 arg3 harg3 arg4 harg4 v0 v2 v4 v6 hi _ _ init h1 p hp
      · exact h2 p hp
    · rcases List.mem_append.mp hp with hp | hp
      · exact trip_out 𝒱 c bd i arg1 harg1 arg2 harg2 arg3 harg3 arg4 harg4 v0 v2 v4 v6 hi _ _ init h1 p hp
      · exact h3 p hp

end Trip

section Block

variable (c : Dev nD) (i : grid0.Coords) (arg1 : Memref sig .tc .vmem S1x10x20000 .f32)
  (harg1 : arg1.IsWhole) (arg2 : Memref sig .tc .vmem S4x20000 .f32) (harg2 : arg2.IsWhole)
  (arg3 : Memref sig .tc .vmem S1x20x10x4 .f32) (harg3 : arg3.IsWhole) (arg4 : Memref sig .tc .vmem S1x20x10 .f32) (harg4 : arg4.IsWhole)
  (x0 : Vec Ideal S1x10x20000 .f32) (x1 : Vec Ideal S4x20000 .f32)

/-- The boxes a block of coordinates holds. -/
def blockBoxes (x1 : Vec Ideal S4x20000 .f32) : Boxes := fun a j => x1 (ix2 a j)

/-- The scores a block's row starts from. -/
def blockStart (x0 : Vec Ideal S1x10x20000 .f32) (r : Fin 10) : Scores := start fun j => x0 (ix3 0 r j)

theorem boxes_ld :
    boxesOf (View.ld x1 (Rect.unit ![0, 0] ![1, 20000] inb_S4x20000_S1x20000_0_0))
            (View.ld x1 (Rect.unit ![1, 0] ![1, 20000] inb_S4x20000_S1x20000_1_0))
            (View.ld x1 (Rect.unit ![2, 0] ![1, 20000] inb_S4x20000_S1x20000_2_0))
            (View.ld x1 (Rect.unit ![3, 0] ![1, 20000] inb_S4x20000_S1x20000_3_0)) = blockBoxes x1 := by
  funext a j
  fin_cases a
  all_goals
    show x1 _ = x1 _
    congr 1
    funext d
    fin_cases d
    · exact Fin.ext (by simp [ix2])
    · exact Fin.ext (by simp [ix2])

theorem start_ld (r : Fin 10) :
    rowOf (k0_pay6 (F := Ideal) (View.ld x0 (Rect.unit ![0, 0, 0] ![1, 10, 20000] inb_S1x10x20000_S1x10x20000_0_0_0))) r = blockStart x0 r := by
  rw [View.ld_unit_zero (S := S1x10x20000) (funext fun a => by fin_cases a <;> rfl)]
  exact pay6_apply x0 r

/-- The block of boxes the body leaves. -/
theorem out_boxes (y : S1x20x10x4.Idx) :
    out0_A_2 c i arg1 harg1 arg2 harg2 arg3 harg3 arg4 harg4 x0 x1 y
      = outBox (blockBoxes x1) (rounds (blockBoxes x1) (blockStart x0 (y 2)) (y 1).val) (y 3) := by
  have hc := cover0_A_2 (F := Ideal) c i arg1 harg1 arg2 harg2 arg3 harg3 arg4 harg4 x0 x1
  unfold out0_A_2
  rw [View.read_writes_eq_canon _ _ _ hc]
  have hc := hc y
  revert hc
  unfold kernelRun0_A
  dsimp only
  sl_unfold_words
  simp only [View.readAt_eq_ld, harg1.read_unread, harg2.read_unread]
  intro hc
  refine (View.canon_apply_of_pieces _ _ (trips_state _ c _ i arg1 harg1 arg2 harg2 arg3 harg3 arg4 harg4 _ _ _ _ _ _ _ le_rfl).2.1 y hc).trans ?_
  unfold boxesAt
  rw [boxes_ld]
  exact congrArg (fun s => outBox (blockBoxes x1) (rounds (blockBoxes x1) s (y 1).val) (y 3)) (start_ld x0 _)

/-- The block of scores the body leaves. -/
theorem out_scores (y : S1x20x10.Idx) :
    out0_A_3 c i arg1 harg1 arg2 harg2 arg3 harg3 arg4 harg4 x0 x1 y
      = outScore (rounds (blockBoxes x1) (blockStart x0 (y 2)) (y 1).val) := by
  have hc := cover0_A_3 (F := Ideal) c i arg1 harg1 arg2 harg2 arg3 harg3 arg4 harg4 x0 x1
  unfold out0_A_3
  rw [View.read_writes_eq_canon _ _ _ hc]
  have hc := hc y
  revert hc
  unfold kernelRun0_A
  dsimp only
  sl_unfold_words
  simp only [View.readAt_eq_ld, harg1.read_unread, harg2.read_unread]
  intro hc
  refine (View.canon_apply_of_pieces _ _ (trips_state _ c _ i arg1 harg1 arg2 harg2 arg3 harg3 arg4 harg4 _ _ _ _ _ _ _ le_rfl).2.2 y hc).trans ?_
  unfold scoresAt
  rw [boxes_ld]
  exact congrArg (fun s => outScore (rounds (blockBoxes x1) s (y 1).val)) (start_ld x0 _)

end Block

end Cert.Proof

end
-- ==== Proof.Nms.KernelRun.lean ====
/- The kernel's run, read at its three results: the launch's blocks put together, and the host lines around it. -/
module

public import proofs.«01_k».proof.Proof.Nms.KernelOut

@[expose] public section

set_option maxRecDepth 16384

noncomputable section

namespace Cert.Proof

open Idealize.ShloMosaic Idealize.ShloMosaic.TcCoe Idealize.ShloMosaic.Tactic Cert.KernelIdeal Cert.KernelIdeal.Gen
open Idealize.SL Idealize.SL.Sem
open Idealize.ShloMosaic.Pipeline (Dat)

/-- The boxes argument as boxes: coordinate first. -/
def boxesArg (a : Vec Ideal S20000x4 .f32) : Boxes := fun d j => a (ix2 j d)

/-- Class `r`'s scores on entry to the first round. -/
def startArg (a : Vec Ideal S20000x20 .f32) (r : Fin 20) : Scores := start fun j => a (ix2 j r)

/-- The box class `r` reports in round `k`. -/
def boxOf (a0 : Vec Ideal S20000x4 .f32) (a1 : Vec Ideal S20000x20 .f32) (r : Fin 20) (k : ℕ) (d : Fin 4) : EReal :=
  outBox (boxesArg a0) (rounds (boxesArg a0) (startArg a1 r) k) d

/-- The score class `r` reports in round `k`. -/
def scoreOf (a0 : Vec Ideal S20000x4 .f32) (a1 : Vec Ideal S20000x20 .f32) (r : Fin 20) (k : ℕ) : EReal :=
  outScore (rounds (boxesArg a0) (startArg a1 r) k)

/-- The class a position of the flat results belongs to. -/
def classAt (n : Fin 400) : Fin 20 := ⟨n.val / 20, by omega⟩

/-- The boxes result. -/
def boxesResult (a0 : Vec Ideal S20000x4 .f32) (a1 : Vec Ideal S20000x20 .f32) : Vec Ideal S400x4 .f32 :=
  fun i => boxOf a0 a1 (classAt (i 0)) ((i 0).val % 20) (i 1)

/-- The scores result. -/
def scoresResult (a0 : Vec Ideal S20000x4 .f32) (a1 : Vec Ideal S20000x20 .f32) : Vec Ideal S400 .f32 :=
  fun i => scoreOf a0 a1 (classAt (i 0)) ((i 0).val % 20)

variable (m : (ℓ : Loc nD τ sig) → Buf (Elt Ideal) ℓ) (ρ : Dev nD → PrngReg)

abbrev argBoxes (c : Dev nD) : Vec Ideal S20000x4 .f32 := m ((c : Thread nD τ).loc main_arg0)
abbrev argScores (c : Dev nD) : Vec Ideal S20000x20 .f32 := m ((c : Thread nD τ).loc main_arg1)

/-- The launch's scores operand, as the host lines before it make it. -/
theorem entry_scores (c : Dev nD) : V m c main_v1 = shapeCast S2x10x20000 (transpose S20x20000 [1, 0] (argScores m c) transposes_S20000x20_S20x20000_1_0) shapeCasts_S20x20000_S2x10x20000 := by
  show StableHlo.after (List.flatten [hostOps0]) (fun b => m (c, b)) (Proc.devRef .tc main_v1) = _
  simp only [hostOps0, List.flatten_cons, List.flatten_nil, List.append_nil, List.cons_append, List.nil_append]
  after_results
  rfl

/-- The launch's boxes operand. -/
theorem entry_boxes (c : Dev nD) : V m c main_v2 = transpose S4x20000 [1, 0] (argBoxes m c) transposes_S20000x4_S4x20000_1_0 := by
  show StableHlo.after (List.flatten [hostOps0]) (fun b => m (c, b)) (Proc.devRef .tc main_v2) = _
  simp only [hostOps0, List.flatten_cons, List.flatten_nil, List.append_nil, List.cons_append, List.nil_append]
  after_results

/-- The class a row of a point's block belongs to. -/
def classOf (t : Fin cfg0.N) (r : Fin 10) : Fin 20 := ⟨10 * t.val + r.val, by have := t.isLt; have : cfg0.N = 2 := N_0; omega⟩

theorem index0 (t : Fin cfg0.N) : win0_0.index t 0 * 1 = t.val ∧ win0_0.index t 1 * 10 = 0 ∧ win0_0.index t 2 * 20000 = 0 := by
  rcases fin_N0 t with rfl | rfl <;> decide +kernel

theorem index1 (t : Fin cfg0.N) : win0_1.index t 0 * 4 = 0 ∧ win0_1.index t 1 * 20000 = 0 := by
  rcases fin_N0 t with rfl | rfl <;> decide +kernel

/-- A block of scores, read off the argument. -/
theorem block_scores (c : Dev nD) (t : Fin cfg0.N) (r : Fin 10) (j : Fin 20000) :
    (iblk m c 0 t : Vec Ideal S1x10x20000 .f32) (ix3 0 r j) = argScores m c (ix2 j (classOf t r)) := by
  unfold iblk
  rw [View.read_apply]
  have h : ((((cfg0.win 0).blk t).view.emb (ix3 0 r j) : S2x10x20000.Idx)) = ix3 ⟨t.val, by have := t.isLt; have : cfg0.N = 2 := N_0; omega⟩ r j := by
    have e := index0 t
    funext a; apply Fin.ext
    match a with
    | ⟨0, _⟩ => show win0_0.index t 0 * 1 + 1 * 0 = t.val; omega
    | ⟨1, _⟩ => show win0_0.index t 1 * 10 + 1 * r.val = r.val; omega
    | ⟨2, _⟩ => show win0_0.index t 2 * 20000 + 1 * j.val = j.val; omega
  refine (congrFun (entry_scores m c) _).trans ((congrArg _ h).trans ?_)
  refine (shapeCast_apply _ _ _ (ix2 (classOf t r) j) ?_).trans ?_
  · rw [Shape.rowMajor_val_two, Shape.rowMajor_val_three]
    show (10 * t.val + r.val) * 20000 + j.val = (t.val * 10 + r.val) * 20000 + j.val
    omega
  · pointwise

/-- The block of boxes is the argument, transposed. -/
theorem block_boxes (c : Dev nD) (t : Fin cfg0.N) : blockBoxes (iblk m c 1 t) = boxesArg (argBoxes m c) := by
  funext d j
  show (iblk m c 1 t : Vec Ideal S4x20000 .f32) (ix2 d j) = argBoxes m c (ix2 j d)
  unfold iblk
  rw [View.read_apply]
  have h : ((((cfg0.win 1).blk t).view.emb (ix2 d j) : S4x20000.Idx)) = ix2 d j := by
    have e := index1 t
    funext a; apply Fin.ext
    match a with
    | ⟨0, _⟩ => show win0_1.index t 0 * 4 + 1 * d.val = d.val; omega
    | ⟨1, _⟩ => show win0_1.index t 1 * 20000 + 1 * j.val = j.val; omega
  refine (congrFun (entry_boxes m c) _).trans ((congrArg _ h).trans ?_)
  pointwise

theorem block_start (c : Dev nD) (t : Fin cfg0.N) (r : Fin 10) : blockStart (iblk m c 0 t) r = startArg (argScores m c) (classOf t r) := by
  unfold blockStart startArg
  congr 1
  funext j
  exact block_scores m c t r j

/-- The class at a point and row of the launch's results. -/
def classHere (g : Fin 2) (r : Fin 10) : Fin 20 := ⟨10 * g.val + r.val, by omega⟩

/-- What the launch leaves as boxes: point, round, row, coordinate. -/
def boxesLaunch (a0 : Vec Ideal S20000x4 .f32) (a1 : Vec Ideal S20000x20 .f32) : Vec Ideal S2x20x10x4 .f32 :=
  fun i => boxOf a0 a1 (classHere (i 0) (i 2)) (i 1).val (i 3)

/-- What the launch leaves as scores: point, round, row. -/
def scoresLaunch (a0 : Vec Ideal S20000x4 .f32) (a1 : Vec Ideal S20000x20 .f32) : Vec Ideal S2x20x10 .f32 :=
  fun i => scoreOf a0 a1 (classHere (i 0) (i 2)) (i 1).val

theorem index2 (t : Fin cfg0.N) : win0_2.index t 0 * win0_2.size 0 = t.val ∧ win0_2.xsize (grid0.coords t) 0 = 1
    ∧ win0_2.index t 1 * win0_2.size 1 = 0 ∧ win0_2.xsize (grid0.coords t) 1 = 20
    ∧ win0_2.index t 2 * win0_2.size 2 = 0 ∧ win0_2.xsize (grid0.coords t) 2 = 10
    ∧ win0_2.index t 3 * win0_2.size 3 = 0 ∧ win0_2.xsize (grid0.coords t) 3 = 4 := by
  rcases fin_N0 t with rfl | rfl <;> decide +kernel

theorem index3 (t : Fin cfg0.N) : win0_3.index t 0 * win0_3.size 0 = t.val ∧ win0_3.xsize (grid0.coords t) 0 = 1
    ∧ win0_3.index t 1 * win0_3.size 1 = 0 ∧ win0_3.xsize (grid0.coords t) 1 = 20
    ∧ win0_3.index t 2 * win0_3.size 2 = 0 ∧ win0_3.xsize (grid0.coords t) 2 = 10 := by
  rcases fin_N0 t with rfl | rfl <;> decide +kernel

/-- What a point writes back as boxes is its block of `boxesLaunch`. -/
theorem flushed_boxes (c : Dev nD) (t : Fin cfg0.N) :
    (dats m 0 c).flushed 2 t = (win0_2.blk t).view.read (Elt Ideal) (boxesLaunch (argBoxes m c) (argScores m c)) := by
  show (cfg0.win 2).cut (grid0.coords t) ((dats m 0 c).after 2 t) = _
  rw [after0_2]
  funext y
  rw [View.read_apply]
  refine (out_boxes (c := c) (y := y) ..).trans ?_
  rw [block_boxes]
  refine (congrArg (fun s => outBox _ (rounds _ s _) _) (block_start m c t _)).trans ?_
  have e := index2 t
  show boxOf (argBoxes m c) (argScores m c) (classOf t (y 2)) (y 1).val (y 3) = boxesLaunch (argBoxes m c) (argScores m c) _
  have h0 : (y 0).val = 0 := by have h : (y 0).val < 1 := (y 0).isLt; omega
  unfold boxesLaunch
  congr 1
  · apply Fin.ext
    show 10 * t.val + (y 2).val = 10 * (win0_2.index t 0 * win0_2.size 0 + 1 * (y 0).val) + (win0_2.index t 2 * win0_2.size 2 + 1 * (y 2).val)
    omega
  · show (y 1).val = win0_2.index t 1 * win0_2.size 1 + 1 * (y 1).val
    omega
  · apply Fin.ext
    show (y 3).val = win0_2.index t 3 * win0_2.size 3 + 1 * (y 3).val
    omega

/-- What a point writes back as scores is its block of `scoresLaunch`. -/
theorem flushed_scores (c : Dev nD) (t : Fin cfg0.N) :
    (dats m 0 c).flushed 3 t = (win0_3.blk t).view.read (Elt Ideal) (scoresLaunch (argBoxes m c) (argScores m c)) := by
  show (cfg0.win 3).cut (grid0.coords t) ((dats m 0 c).after 3 t) = _
  rw [after0_3]
  funext y
  rw [View.read_apply]
  refine (out_scores (c := c) (y := y) ..).trans ?_
  rw [block_boxes]
  refine (congrArg (fun s => outScore (rounds _ s _)) (block_start m c t _)).trans ?_
  have e := index3 t
  show scoreOf (argBoxes m c) (argScores m c) (classOf t (y 2)) (y 1).val = scoresLaunch (argBoxes m c) (argScores m c) _
  have h0 : (y 0).val = 0 := by have h : (y 0).val < 1 := (y 0).isLt; omega
  unfold scoresLaunch
  congr 1
  · apply Fin.ext
    show 10 * t.val + (y 2).val = 10 * (win0_3.index t 0 * win0_3.size 0 + 1 * (y 0).val) + (win0_3.index t 2 * win0_3.size 2 + 1 * (y 2).val)
    omega
  · show (y 1).val = win0_3.index t 1 * win0_3.size 1 + 1 * (y 1).val
    omega

/-- Every index of the boxes array is in the block of the point its leading coordinate names. -/
theorem cover_boxes (i : S2x20x10x4.Idx) : ∃ t : Fin cfg0.N, (cfg0.win 2).flush t = true ∧ i ∈ ((cfg0.win 2).blk t).view.set := by
  have h0 : (i 0).val < 2 := (i 0).isLt
  have h1 : (i 1).val < 20 := (i 1).isLt
  have h2 : (i 2).val < 10 := (i 2).isLt
  have h3 : (i 3).val < 4 := (i 3).isLt
  have hN : cfg0.N = 2 := N_0
  obtain ⟨t, ht⟩ : ∃ t : Fin cfg0.N, t.val = (i 0).val := ⟨⟨(i 0).val, by omega⟩, rfl⟩
  refine ⟨t, flush0_2 _, ?_⟩
  have e := index2 t
  show i ∈ ((View.whole main_v3_0).slice (win0_2.rect t)).set
  rw [View.set_slice_whole, Rect.mem_set_unit]
  intro a
  match a with
  | ⟨0, _⟩ => show win0_2.index t 0 * win0_2.size 0 ≤ (i 0).val ∧ (i 0).val < win0_2.index t 0 * win0_2.size 0 + win0_2.xsize (grid0.coords t) 0; omega
  | ⟨1, _⟩ => show win0_2.index t 1 * win0_2.size 1 ≤ (i 1).val ∧ (i 1).val < win0_2.index t 1 * win0_2.size 1 + win0_2.xsize (grid0.coords t) 1; omega
  | ⟨2, _⟩ => show win0_2.index t 2 * win0_2.size 2 ≤ (i 2).val ∧ (i 2).val < win0_2.index t 2 * win0_2.size 2 + win0_2.xsize (grid0.coords t) 2; omega
  | ⟨3, _⟩ => show win0_2.index t 3 * win0_2.size 3 ≤ (i 3).val ∧ (i 3).val < win0_2.index t 3 * win0_2.size 3 + win0_2.xsize (grid0.coords t) 3; omega

/-- Every index of the scores array likewise. -/
theorem cover_scores (i : S2x20x10.Idx) : ∃ t : Fin cfg0.N, (cfg0.win 3).flush t = true ∧ i ∈ ((cfg0.win 3).blk t).view.set := by
  have h0 : (i 0).val < 2 := (i 0).isLt
  have h1 : (i 1).val < 20 := (i 1).isLt
  have h2 : (i 2).val < 10 := (i 2).isLt
  have hN : cfg0.N = 2 := N_0
  obtain ⟨t, ht⟩ : ∃ t : Fin cfg0.N, t.val = (i 0).val := ⟨⟨(i 0).val, by omega⟩, rfl⟩
  refine ⟨t, flush0_3 _, ?_⟩
  have e := index3 t
  show i ∈ ((View.whole main_v3_1).slice (win0_3.rect t)).set
  rw [View.set_slice_whole, Rect.mem_set_unit]
  intro a
  match a with
  | ⟨0, _⟩ => show win0_3.index t 0 * win0_3.size 0 ≤ (i 0).val ∧ (i 0).val < win0_3.index t 0 * win0_3.size 0 + win0_3.xsize (grid0.coords t) 0; omega
  | ⟨1, _⟩ => show win0_3.index t 1 * win0_3.size 1 ≤ (i 1).val ∧ (i 1).val < win0_3.index t 1 * win0_3.size 1 + win0_3.xsize (grid0.coords t) 1; omega
  | ⟨2, _⟩ => show win0_3.index t 2 * win0_3.size 2 ≤ (i 2).val ∧ (i 2).val < win0_3.index t 2 * win0_3.size 2 + win0_3.xsize (grid0.coords t) 2; omega

/-- The boxes array after the launch. -/
theorem final_boxes (c : Dev nD) : (dats m 0 c).arrAt 2 cfg0.N = boxesLaunch (argBoxes m c) (argScores m c) :=
  (dats m 0 c).arrAt_eq_of_cover 2 _ (fun t _ => flushed_boxes m c t) cover_boxes

/-- The scores array after the launch. -/
theorem final_scores (c : Dev nD) : (dats m 0 c).arrAt 3 cfg0.N = scoresLaunch (argBoxes m c) (argScores m c) :=
  (dats m 0 c).arrAt_eq_of_cover 3 _ (fun t _ => flushed_scores m c t) cover_scores

/-- The boxes result from the launch's boxes. -/
theorem flat_boxes (a0 : Vec Ideal S20000x4 .f32) (a1 : Vec Ideal S20000x20 .f32) :
    shapeCast S400x4 (transpose S2x10x20x4 [0, 2, 1, 3] (boxesLaunch a0 a1) transposes_S2x20x10x4_S2x10x20x4_0_2_1_3) shapeCasts_S2x10x20x4_S400x4
      = boxesResult a0 a1 := by
  funext i
  have h0 : (i 0).val < 400 := (i 0).isLt
  refine (shapeCast_apply _ _ i (ix4 (⟨(i 0).val / 200, by omega⟩ : Fin 2) (⟨(i 0).val / 20 % 10, by omega⟩ : Fin 10) (⟨(i 0).val % 20, by omega⟩ : Fin 20) (i 3 : Fin 4)) ?_).trans ?_
  · rw [Shape.rowMajor_val_two, Shape.rowMajor_val_four]
    show (((i 0).val / 200 * 10 + (i 0).val / 20 % 10) * 20 + (i 0).val % 20) * 4 + (i 1).val = (i 0).val * 4 + (i 1).val
    omega
  · have h : transpose S2x10x20x4 [0, 2, 1, 3] (boxesLaunch a0 a1) transposes_S2x20x10x4_S2x10x20x4_0_2_1_3 (ix4 (⟨(i 0).val / 200, by omega⟩ : Fin 2) (⟨(i 0).val / 20 % 10, by omega⟩ : Fin 10) (⟨(i 0).val % 20, by omega⟩ : Fin 20) (i 1 : Fin 4)) = boxesLaunch a0 a1 (ix4 (⟨(i 0).val / 200, by omega⟩ : Fin 2) (⟨(i 0).val % 20, by omega⟩ : Fin 20) (⟨(i 0).val / 20 % 10, by omega⟩ : Fin 10) (i 1 : Fin 4)) := by
      pointwise
    refine h.trans ?_
    show boxOf a0 a1 (classHere _ _) _ _ = boxOf a0 a1 _ _ _
    congr 1
    apply Fin.ext
    show 10 * ((i 0).val / 200) + (i 0).val / 20 % 10 = (i 0).val / 20
    omega

/-- The scores result from the launch's scores. -/
theorem flat_scores (a0 : Vec Ideal S20000x4 .f32) (a1 : Vec Ideal S20000x20 .f32) :
    shapeCast S400 (transpose S2x10x20 [0, 2, 1] (scoresLaunch a0 a1) transposes_S2x20x10_S2x10x20_0_2_1) shapeCasts_S2x10x20_S400
      = scoresResult a0 a1 := by
  funext i
  have h0 : (i 0).val < 400 := (i 0).isLt
  refine (shapeCast_apply _ _ i (ix3 (⟨(i 0).val / 200, by omega⟩ : Fin 2) (⟨(i 0).val / 20 % 10, by omega⟩ : Fin 10) (⟨(i 0).val % 20, by omega⟩ : Fin 20)) ?_).trans ?_
  · rw [Shape.rowMajor_val_one, Shape.rowMajor_val_three]
    show ((i 0).val / 200 * 10 + (i 0).val / 20 % 10) * 20 + (i 0).val % 20 = (i 0).val
    omega
  · have h : transpose S2x10x20 [0, 2, 1] (scoresLaunch a0 a1) transposes_S2x20x10_S2x10x20_0_2_1 (ix3 (⟨(i 0).val / 200, by omega⟩ : Fin 2) (⟨(i 0).val / 20 % 10, by omega⟩ : Fin 10) (⟨(i 0).val % 20, by omega⟩ : Fin 20)) = scoresLaunch a0 a1 (ix3 (⟨(i 0).val / 200, by omega⟩ : Fin 2) (⟨(i 0).val % 20, by omega⟩ : Fin 20) (⟨(i 0).val / 20 % 10, by omega⟩ : Fin 10)) := by
      pointwise
    refine h.trans ?_
    show scoreOf a0 a1 (classHere _ _) _ = scoreOf a0 a1 _ _
    congr 1
    apply Fin.ext
    show 10 * ((i 0).val / 200) + (i 0).val / 20 % 10 = (i 0).val / 20
    omega

/-- What the launch leaves, as the host lines after it find it. -/
abbrev left (c : Dev nD) : Valuation τ sig (Elt Ideal) :=
  Pipeline.withArrays spec0 c (V0 m c) fun w => (dats m 0 c).arrAt w cfg0.N

theorem left_boxes (c : Dev nD) : left m c (Proc.devRef .tc main_v3_0) = boxesLaunch (argBoxes m c) (argScores m c) :=
  (Pipeline.withArrays_arr spec0 (by decide) c (V0 m c) (fun w => (dats m 0 c).arrAt w cfg0.N) 2).trans (final_boxes m c)

theorem left_scores (c : Dev nD) : left m c (Proc.devRef .tc main_v3_1) = scoresLaunch (argBoxes m c) (argScores m c) :=
  (Pipeline.withArrays_arr spec0 (by decide) c (V0 m c) (fun w => (dats m 0 c).arrAt w cfg0.N) 3).trans (final_scores m c)

theorem exit_boxes (c : Dev nD) :
    Pipeline.afterTail₀ cfgs (dats m) 0 (V0 m) [hostOps1] c main_v5 = boxesResult (argBoxes m c) (argScores m c) := by
  refine Eq.trans ?_ (flat_boxes _ _)
  rw [← left_boxes]
  show StableHlo.after (List.flatten [hostOps1]) (left m c) (Proc.devRef .tc main_v5) = _
  generalize left m c = W
  simp only [hostOps1, List.flatten_cons, List.flatten_nil, List.append_nil, List.cons_append, List.nil_append]
  after_results
  rfl

theorem exit_scores (c : Dev nD) :
    Pipeline.afterTail₀ cfgs (dats m) 0 (V0 m) [hostOps1] c main_v7 = scoresResult (argBoxes m c) (argScores m c) := by
  refine Eq.trans ?_ (flat_scores _ _)
  rw [← left_scores]
  show StableHlo.after (List.flatten [hostOps1]) (left m c) (Proc.devRef .tc main_v7) = _
  generalize left m c = W
  simp only [hostOps1, List.flatten_cons, List.flatten_nil, List.append_nil, List.cons_append, List.nil_append]
  after_results
  rfl

/-- The class of every result. -/
def classesResult : IVec S400 32 := shapeCast S400 (broadcastInDim S20x20 ![0] bcast_S20_S20x20_0 (iotaInDim S20 32 0)) shapeCasts_S20x20_S400

theorem exit_classes (c : Dev nD) : Pipeline.afterTail₀ cfgs (dats m) 0 (V0 m) [hostOps1] c main_v10 = classesResult := by
  show StableHlo.after (List.flatten [hostOps1]) (left m c) (Proc.devRef .tc main_v10) = _
  generalize left m c = W
  simp only [hostOps1, List.flatten_cons, List.flatten_nil, List.append_nil, List.cons_append, List.nil_append]
  after_results
  rfl

/-- The kernel's run: the three results, and the arguments as they were. -/
theorem kernel_run : θ_run defs (onTc (τ := τ) (main (F := Ideal))) ⟨m, fun _ => 0, ρ⟩ fun r => ∀ c : Dev nD,
      r.2.mem ((c.tc : Thread nD τ).loc main_v5) = boxesResult (argBoxes m c) (argScores m c)
      ∧ r.2.mem ((c.tc : Thread nD τ).loc main_v7) = scoresResult (argBoxes m c) (argScores m c)
      ∧ r.2.mem ((c.tc : Thread nD τ).loc main_v10) = classesResult
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (exit_boxes m c),
      ((h c).2 main_v7 (Pipeline.mem_restRefs_of main_v7 (by decide) (by decide))).trans (exit_scores m c),
      ((h c).2 main_v10 (Pipeline.mem_restRefs_of main_v10 (by decide) (by decide))).trans (exit_classes m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof

end
-- ==== Proof.Nms.RefRun.lean ====
/- The reference program's run as one pure step iterated: every buffer one trip of its loop computes is the step's value
   of the state the trip started from, so the results are read off the twentieth state. -/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v7_3) = s.main_v7_3
  f_4 : V0 (Proc.devRef .tc main_v7_4) = s.main_v7_4
  f_5 : V0 (Proc.devRef .tc main_v7_5) = s.main_v7_5
  f_0 : V0 (Proc.devRef .tc main_v7_0) = s.main_v7_0
  n_2 : V0 (Proc.devRef .tc main_v7_2) = constantI S_ 32 (BitVec.ofNat 32 j)
  k_1 : V0 (Proc.devRef .tc main_v7_1) = Cert.ReferenceIdeal.Step.K_main_v4 (F := F)

variable {V0 s j}

set_option maxRecDepth 8192 in
theorem al_0 (h : Holds V0 s j) : ((Host.topK S20x1 1 (FloatOps.cmpfTotal .gt) (V0 (Proc.devRef .tc main_v7_3)) sliceFits_S20x20000_S20x1).1 : (Proc.devRef .tc main_while0b_values : DevRef τ sig).ty.Contents (Elt F)) = Cert.ReferenceIdeal.Step.b0 j s := by
  unfold Cert.ReferenceIdeal.Step.b0
  rw [h.f_3]
  try rfl
set_option maxRecDepth 8192 in
theorem al_1 (h : Holds V0 s j) : ((Host.topK S20x1 1 (FloatOps.cmpfTotal .gt) (V0 (Proc.devRef .tc main_v7_3)) sliceFits_S20x20000_S20x1).2 : (Proc.devRef .tc main_while0b_indices : DevRef τ sig).ty.Contents (Elt F)) = Cert.ReferenceIdeal.Step.b1 j s := by
  unfold Cert.ReferenceIdeal.Step.b1
  rw [h.f_3]
  try rfl
set_option maxRecDepth 8192 in
theorem al_2 (h : Holds V0 s j) : (res_main_while0b_v15 V0 : (Proc.devRef .tc main_while0b_v15 : DevRef τ sig).ty.Contents (Elt F)) = Cert.ReferenceIdeal.Step.b2 j s := by
  unfold res_main_while0b_v15 Cert.ReferenceIdeal.Step.b2
  rw [← al_0 h]
  try rfl
set_option maxRecDepth 8192 in
theorem al_3 (h : Holds V0 s j) : (res_main_while0b_v16 V0 : (Proc.devRef .tc main_while0b_v16 : DevRef τ sig).ty.Contents (Elt F)) = Cert.ReferenceIdeal.Step.b3 j s := by
  unfold res_main_while0b_v16 Cert.ReferenceIdeal.Step.b3
  rw [← al_1 h]
  try rfl
set_option maxRecDepth 8192 in
theorem al_4 (h : Holds V0 s j) : (constant S_ .f32 0xF0C9F2CA#32 : (Proc.devRef .tc main_while0b_cst_8 : DevRef τ sig).ty.Contents (Elt F)) = Cert.ReferenceIdeal.Step.b4 j s := by
  unfold Cert.ReferenceIdeal.Step.b4
  rfl
set_option maxRecDepth 8192 in
theorem al_5 (h : Holds V0 s j) : (broadcastInDim S20 ![] bcast_S_S20 (constant S_ .f32 0xF0C9F2CA#32) : (Proc.devRef .tc main_while0b_v17 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (res_main_while0b_v18 V0 : (Proc.devRef .tc main_while0b_v18 : DevRef τ sig).ty.Contents (Elt F)) = Cert.ReferenceIdeal.Step.b6 j s := by
  unfold res_main_while0b_v18 Cert.ReferenceIdeal.Step.b6
  rw [← al_2 h, ← al_5 h]
  try rfl
set_option maxRecDepth 8192 in
theorem al_7 (h : Holds V0 s j) : (constantI S_ 32 0#32 : (Proc.devRef .tc main_while0b_c_9 : DevRef τ sig).ty.Contents (Elt F)) = Cert.ReferenceIdeal.Step.b7 j s := by
  unfold Cert.ReferenceIdeal.Step.b7
  rfl
set_option maxRecDepth 8192 in
theorem al_8 (h : Holds V0 s j) : (broadcastInDim S20 ![] bcast_S_S20 (constantI S_ 32 0#32) : (Proc.devRef .tc main_while0b_v19 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (cmpi .slt (res_main_while0b_v16 V0) (broadcastInDim S20 ![] bcast_S_S20 (constantI S_ 32 0#32)) : (Proc.devRef .tc main_while0b_v20 : DevRef τ sig).ty.Contents (Elt F)) = Cert.ReferenceIdeal.Step.b9 j s := by
  unfold Cert.ReferenceIdeal.Step.b9
  rw [← al_3 h, ← al_8 h]
  try rfl
set_option maxRecDepth 8192 in
theorem al_10 (h : Holds V0 s j) : (constantI S_ 32 20000#32 : (Proc.devRef .tc main_while0b_c_10 : DevRef τ sig).ty.Contents (Elt F)) = Cert.ReferenceIdeal.Step.b10 j s := by
  unfold Cert.ReferenceIdeal.Step.b10
  rfl
set_option maxRecDepth 8192 in
theorem al_11 (h : Holds V0 s j) : (broadcastInDim S20 ![] bcast_S_S20 (constantI S_ 32 20000#32) : (Proc.devRef .tc main_while0b_v21 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (addi (res_main_while0b_v16 V0) (broadcastInDim S20 ![] bcast_S_S20 (constantI S_ 32 20000#32)) : (Proc.devRef .tc main_while0b_v22 : DevRef τ sig).ty.Contents (Elt F)) = Cert.ReferenceIdeal.Step.b12 j s := by
  unfold Cert.ReferenceIdeal.Step.b12
  rw [← al_3 h, ← al_11 h]
  try rfl
set_option maxRecDepth 8192 in
theorem al_13 (h : Holds V0 s j) : (select (cmpi .slt (res_main_while0b_v16 V0) (broadcastInDim S20 ![] bcast_S_S20 (constantI S_ 32 0#32))) (addi (res_main_while0b_v16 V0) (broadcastInDim S20 ![] bcast_S_S20 (constantI S_ 32 20000#32))) (res_main_while0b_v16 V0) : (Proc.devRef .tc main_while0b_v23 : DevRef τ sig).ty.Contents (Elt F)) = Cert.ReferenceIdeal.Step.b13 j s := by
  unfold Cert.ReferenceIdeal.Step.b13
  rw [← al_9 h, ← al_12 h, ← al_3 h]
  try rfl
set_option maxRecDepth 8192 in
theorem al_14 (h : Holds V0 s j) : (broadcastInDim S20x1 ![0] bcast_S20_S20x1_0 (select (cmpi .slt (res_main_while0b_v16 V0) (broadcastInDim S20 ![] bcast_S_S20 (constantI S_ 32 0#32))) (addi (res_main_while0b_v16 V0) (broadcastInDim S20 ![] bcast_S_S20 (constantI S_ 32 20000#32))) (res_main_while0b_v16 V0)) : (Proc.devRef .tc main_while0b_v24 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (res_main_while0b_v25 V0 : (Proc.devRef .tc main_while0b_v25 : DevRef τ sig).ty.Contents (Elt F)) = Cert.ReferenceIdeal.Step.b15 j s := by
  unfold res_main_while0b_v25 Cert.ReferenceIdeal.Step.b15
  rw [← al_14 h, h.f_0]
  try rfl
set_option maxRecDepth 8192 in
theorem al_16 (h : Holds V0 s j) : (broadcastInDim S20x1 ![0] bcast_S20_S20x1_0 (res_main_while0b_v18 V0) : (Proc.devRef .tc main_while0b_v26 : DevRef τ sig).ty.Contents (Elt F)) = Cert.ReferenceIdeal.Step.b16 j s := by
  unfold Cert.ReferenceIdeal.Step.b16
  rw [← al_6 h]
  try rfl
set_option maxRecDepth 8192 in
theorem al_17 (h : Holds V0 s j) : (res_main_while0b_v27 V0 : (Proc.devRef .tc main_while0b_v27 : DevRef τ sig).ty.Contents (Elt F)) = Cert.ReferenceIdeal.Step.b17 j s := by
  unfold res_main_while0b_v27 Cert.ReferenceIdeal.Step.b17
  rw [← al_15 h]
  try rfl
set_option maxRecDepth 8192 in
theorem al_18 (h : Holds V0 s j) : (res_main_while0b_v28 V0 : (Proc.devRef .tc main_while0b_v28 : DevRef τ sig).ty.Contents (Elt F)) = Cert.ReferenceIdeal.Step.b18 j s := by
  unfold res_main_while0b_v28 Cert.ReferenceIdeal.Step.b18
  rw [← al_15 h]
  try rfl
set_option maxRecDepth 8192 in
theorem al_19 (h : Holds V0 s j) : (res_main_while0b_v29 V0 : (Proc.devRef .tc main_while0b_v29 : DevRef τ sig).ty.Contents (Elt F)) = Cert.ReferenceIdeal.Step.b19 j s := by
  unfold res_main_while0b_v29 Cert.ReferenceIdeal.Step.b19
  rw [← al_15 h]
  try rfl
set_option maxRecDepth 8192 in
theorem al_20 (h : Holds V0 s j) : (res_main_while0b_v30 V0 : (Proc.devRef .tc main_while0b_v30 : DevRef τ sig).ty.Contents (Elt F)) = Cert.ReferenceIdeal.Step.b20 j s := by
  unfold res_main_while0b_v30 Cert.ReferenceIdeal.Step.b20
  rw [← al_15 h]
  try rfl
set_option maxRecDepth 8192 in
theorem al_21 (h : Holds V0 s j) : (extractStridedSlice S20000x1 ![0, 0] (V0 (Proc.devRef .tc main_v7_0)) slices_S20000x4_S20000x1_0_0 : (Proc.devRef .tc main_while0b_v31 : DevRef τ sig).ty.Contents (Elt F)) = Cert.ReferenceIdeal.Step.b21 j s := by
  unfold Cert.ReferenceIdeal.Step.b21
  rw [h.f_0]
  try rfl
set_option maxRecDepth 8192 in
theorem al_22 (h : Holds V0 s j) : (res_main_while0b_v32 V0 : (Proc.devRef .tc main_while0b_v32 : DevRef τ sig).ty.Contents (Elt F)) = Cert.ReferenceIdeal.Step.b22 j s := by
  unfold res_main_while0b_v32 Cert.ReferenceIdeal.Step.b22
  rw [← al_21 h]
  try rfl
set_option maxRecDepth 8192 in
theorem al_23 (h : Holds V0 s j) : (extractStridedSlice S20000x1 ![0, 1] (V0 (Proc.devRef .tc main_v7_0)) slices_S20000x4_S20000x1_0_1 : (Proc.devRef .tc main_while0b_v33 : DevRef τ sig).ty.Contents (Elt F)) = Cert.ReferenceIdeal.Step.b23 j s := by
  unfold Cert.ReferenceIdeal.Step.b23
  rw [h.f_0]
  try rfl
set_option maxRecDepth 8192 in
theorem al_24 (h : Holds V0 s j) : (res_main_while0b_v34 V0 : (Proc.devRef .tc main_while0b_v34 : DevRef τ sig).ty.Contents (Elt F)) = Cert.ReferenceIdeal.Step.b24 j s := by
  unfold res_main_while0b_v34 Cert.ReferenceIdeal.Step.b24
  rw [← al_23 h]
  try rfl
set_option maxRecDepth 8192 in
theorem al_25 (h : Holds V0 s j) : (extractStridedSlice S20000x1 ![0, 2] (V0 (Proc.devRef .tc main_v7_0)) slices_S20000x4_S20000x1_0_2 : (Proc.devRef .tc main_while0b_v35 : DevRef τ sig).ty.Contents (Elt F)) = Cert.ReferenceIdeal.Step.b25 j s := by
  unfold Cert.ReferenceIdeal.Step.b25
  rw [h.f_0]
  try rfl
set_option maxRecDepth 8192 in
theorem al_26 (h : Holds V0 s j) : (res_main_while0b_v36 V0 : (Proc.devRef .tc main_while0b_v36 : DevRef τ sig).ty.Contents (Elt F)) = Cert.ReferenceIdeal.Step.b26 j s := by
  unfold res_main_while0b_v36 Cert.ReferenceIdeal.Step.b26
  rw [← al_25 h]
  try rfl
set_option maxRecDepth 8192 in
theorem al_27 (h : Holds V0 s j) : (extractStridedSlice S20000x1 ![0, 3] (V0 (Proc.devRef .tc main_v7_0)) slices_S20000x4_S20000x1_0_3 : (Proc.devRef .tc main_while0b_v37 : DevRef τ sig).ty.Contents (Elt F)) = Cert.ReferenceIdeal.Step.b27 j s := by
  unfold Cert.ReferenceIdeal.Step.b27
  rw [h.f_0]
  try rfl
set_option maxRecDepth 8192 in
theorem al_28 (h : Holds V0 s j) : (res_main_while0b_v38 V0 : (Proc.devRef .tc main_while0b_v38 : DevRef τ sig).ty.Contents (Elt F)) = Cert.ReferenceIdeal.Step.b28 j s := by
  unfold res_main_while0b_v38 Cert.ReferenceIdeal.Step.b28
  rw [← al_27 h]
  try rfl
set_option maxRecDepth 8192 in
theorem al_29 (h : Holds V0 s j) : (broadcastInDim S1x20000 ![1] bcast_S20000_S1x20000_1 (res_main_while0b_v32 V0) : (Proc.devRef .tc main_while0b_v39 : DevRef τ sig).ty.Contents (Elt F)) = Cert.ReferenceIdeal.Step.b29 j s := by
  unfold Cert.ReferenceIdeal.Step.b29
  rw [← al_22 h]
  try rfl
set_option maxRecDepth 8192 in
theorem al_30 (h : Holds V0 s j) : (broadcastInDim S20x20000 ![0, 1] bcast_S20x1_S20x20000_0_1 (res_main_while0b_v27 V0) : (Proc.devRef .tc main_while0b_v40 : DevRef τ sig).ty.Contents (Elt F)) = Cert.ReferenceIdeal.Step.b30 j s := by
  unfold Cert.ReferenceIdeal.Step.b30
  rw [← al_17 h]
  try rfl
set_option maxRecDepth 8192 in
theorem al_31 (h : Holds V0 s j) : (broadcastInDim S20x20000 ![0, 1] bcast_S1x20000_S20x20000_0_1 (broadcastInDim S1x20000 ![1] bcast_S20000_S1x20000_1 (res_main_while0b_v32 V0)) : (Proc.devRef .tc main_while0b_v41 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (maximumf (broadcastInDim S20x20000 ![0, 1] bcast_S20x1_S20x20000_0_1 (res_main_while0b_v27 V0)) (broadcastInDim S20x20000 ![0, 1] bcast_S1x20000_S20x20000_0_1 (broadcastInDim S1x20000 ![1] bcast_S20000_S1x20000_1 (res_main_while0b_v32 V0))) : (Proc.devRef .tc main_while0b_v42 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (broadcastInDim S1x20000 ![1] bcast_S20000_S1x20000_1 (res_main_while0b_v34 V0) : (Proc.devRef .tc main_while0b_v43 : DevRef τ sig).ty.Contents (Elt F)) = Cert.ReferenceIdeal.Step.b33 j s := by
  unfold Cert.ReferenceIdeal.Step.b33
  rw [← al_24 h]
  try rfl
set_option maxRecDepth 8192 in
theorem al_34 (h : Holds V0 s j) : (broadcastInDim S20x20000 ![0, 1] bcast_S20x1_S20x20000_0_1 (res_main_while0b_v28 V0) : (Proc.devRef .tc main_while0b_v44 : DevRef τ sig).ty.Contents (Elt F)) = Cert.ReferenceIdeal.Step.b34 j s := by
  unfold Cert.ReferenceIdeal.Step.b34
  rw [← al_18 h]
  try rfl
set_option maxRecDepth 8192 in
theorem al_35 (h : Holds V0 s j) : (broadcastInDim S20x20000 ![0, 1] bcast_S1x20000_S20x20000_0_1 (broadcastInDim S1x20000 ![1] bcast_S20000_S1x20000_1 (res_main_while0b_v34 V0)) : (Proc.devRef .tc main_while0b_v45 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (maximumf (broadcastInDim S20x20000 ![0, 1] bcast_S20x1_S20x20000_0_1 (res_main_while0b_v28 V0)) (broadcastInDim S20x20000 ![0, 1] bcast_S1x20000_S20x20000_0_1 (broadcastInDim S1x20000 ![1] bcast_S20000_S1x20000_1 (res_main_while0b_v34 V0))) : (Proc.devRef .tc main_while0b_v46 : DevRef τ sig).ty.Contents (Elt F)) = Cert.ReferenceIdeal.Step.b36 j s := by
  unfold Cert.ReferenceIdeal.Step.b36
  rw [← al_34 h, ← al_35 h]
  try rfl
set_option maxRecDepth 8192 in
theorem al_37 (h : Holds V0 s j) : (broadcastInDim S1x20000 ![1] bcast_S20000_S1x20000_1 (res_main_while0b_v36 V0) : (Proc.devRef .tc main_while0b_v47 : DevRef τ sig).ty.Contents (Elt F)) = Cert.ReferenceIdeal.Step.b37 j s := by
  unfold Cert.ReferenceIdeal.Step.b37
  rw [← al_26 h]
  try rfl
set_option maxRecDepth 8192 in
theorem al_38 (h : Holds V0 s j) : (broadcastInDim S20x20000 ![0, 1] bcast_S20x1_S20x20000_0_1 (res_main_while0b_v29 V0) : (Proc.devRef .tc main_while0b_v48 : DevRef τ sig).ty.Contents (Elt F)) = Cert.ReferenceIdeal.Step.b38 j s := by
  unfold Cert.ReferenceIdeal.Step.b38
  rw [← al_19 h]
  try rfl
set_option maxRecDepth 8192 in
theorem al_39 (h : Holds V0 s j) : (broadcastInDim S20x20000 ![0, 1] bcast_S1x20000_S20x20000_0_1 (broadcastInDim S1x20000 ![1] bcast_S20000_S1x20000_1 (res_main_while0b_v36 V0)) : (Proc.devRef .tc main_while0b_v49 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (minimumf (broadcastInDim S20x20000 ![0, 1] bcast_S20x1_S20x20000_0_1 (res_main_while0b_v29 V0)) (broadcastInDim S20x20000 ![0, 1] bcast_S1x20000_S20x20000_0_1 (broadcastInDim S1x20000 ![1] bcast_S20000_S1x20000_1 (res_main_while0b_v36 V0))) : (Proc.devRef .tc main_while0b_v50 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (broadcastInDim S1x20000 ![1] bcast_S20000_S1x20000_1 (res_main_while0b_v38 V0) : (Proc.devRef .tc main_while0b_v51 : DevRef τ sig).ty.Contents (Elt F)) = Cert.ReferenceIdeal.Step.b41 j s := by
  unfold Cert.ReferenceIdeal.Step.b41
  rw [← al_28 h]
  try rfl
set_option maxRecDepth 8192 in
theorem al_42 (h : Holds V0 s j) : (broadcastInDim S20x20000 ![0, 1] bcast_S20x1_S20x20000_0_1 (res_main_while0b_v30 V0) : (Proc.devRef .tc main_while0b_v52 : DevRef τ sig).ty.Contents (Elt F)) = Cert.ReferenceIdeal.Step.b42 j s := by
  unfold Cert.ReferenceIdeal.Step.b42
  rw [← al_20 h]
  try rfl
set_option maxRecDepth 8192 in
theorem al_43 (h : Holds V0 s j) : (broadcastInDim S20x20000 ![0, 1] bcast_S1x20000_S20x20000_0_1 (broadcastInDim S1x20000 ![1] bcast_S20000_S1x20000_1 (res_main_while0b_v38 V0)) : (Proc.devRef .tc main_while0b_v53 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (minimumf (broadcastInDim S20x20000 ![0, 1] bcast_S20x1_S20x20000_0_1 (res_main_while0b_v30 V0)) (broadcastInDim S20x20000 ![0, 1] bcast_S1x20000_S20x20000_0_1 (broadcastInDim S1x20000 ![1] bcast_S20000_S1x20000_1 (res_main_while0b_v38 V0))) : (Proc.devRef .tc main_while0b_v54 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (subf (minimumf (broadcastInDim S20x20000 ![0, 1] bcast_S20x1_S20x20000_0_1 (res_main_while0b_v29 V0)) (broadcastInDim S20x20000 ![0, 1] bcast_S1x20000_S20x20000_0_1 (broadcastInDim S1x20000 ![1] bcast_S20000_S1x20000_1 (res_main_while0b_v36 V0)))) (maximumf (broadcastInDim S20x20000 ![0, 1] bcast_S20x1_S20x20000_0_1 (res_main_while0b_v27 V0)) (broadcastInDim S20x20000 ![0, 1] bcast_S1x20000_S20x20000_0_1 (broadcastInDim S1x20000 ![1] bcast_S20000_S1x20000_1 (res_main_while0b_v32 V0)))) : (Proc.devRef .tc main_while0b_v55 : DevRef τ sig).ty.Contents (Elt F)) = Cert.ReferenceIdeal.Step.b45 j s := by
  unfold Cert.ReferenceIdeal.Step.b45
  rw [← al_40 h, ← al_32 h]
  try rfl
set_option maxRecDepth 8192 in
theorem al_46 (h : Holds V0 s j) : (constant S_ .f32 0x00000000#32 : (Proc.devRef .tc main_while0b_cst_11 : DevRef τ sig).ty.Contents (Elt F)) = Cert.ReferenceIdeal.Step.b46 j s := by
  unfold Cert.ReferenceIdeal.Step.b46
  rfl
set_option maxRecDepth 8192 in
theorem al_47 (h : Holds V0 s j) : (broadcastInDim S20x20000 ![] bcast_S_S20x20000 (constant S_ .f32 0x00000000#32) : (Proc.devRef .tc main_while0b_v56 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (maximumf (subf (minimumf (broadcastInDim S20x20000 ![0, 1] bcast_S20x1_S20x20000_0_1 (res_main_while0b_v29 V0)) (broadcastInDim S20x20000 ![0, 1] bcast_S1x20000_S20x20000_0_1 (broadcastInDim S1x20000 ![1] bcast_S20000_S1x20000_1 (res_main_while0b_v36 V0)))) (maximumf (broadcastInDim S20x20000 ![0, 1] bcast_S20x1_S20x20000_0_1 (res_main_while0b_v27 V0)) (broadcastInDim S20x20000 ![0, 1] bcast_S1x20000_S20x20000_0_1 (broadcastInDim S1x20000 ![1] bcast_S20000_S1x20000_1 (res_main_while0b_v32 V0))))) (broadcastInDim S20x20000 ![] bcast_S_S20x20000 (constant S_ .f32 0x00000000#32)) : (Proc.devRef .tc main_while0b_v57 : DevRef τ sig).ty.Contents (Elt F)) = Cert.ReferenceIdeal.Step.b48 j s := by
  unfold Cert.ReferenceIdeal.Step.b48
  rw [← al_45 h, ← al_47 h]
  try rfl
set_option maxRecDepth 8192 in
theorem al_49 (h : Holds V0 s j) : (subf (minimumf (broadcastInDim S20x20000 ![0, 1] bcast_S20x1_S20x20000_0_1 (res_main_while0b_v30 V0)) (broadcastInDim S20x20000 ![0, 1] bcast_S1x20000_S20x20000_0_1 (broadcastInDim S1x20000 ![1] bcast_S20000_S1x20000_1 (res_main_while0b_v38 V0)))) (maximumf (broadcastInDim S20x20000 ![0, 1] bcast_S20x1_S20x20000_0_1 (res_main_while0b_v28 V0)) (broadcastInDim S20x20000 ![0, 1] bcast_S1x20000_S20x20000_0_1 (broadcastInDim S1x20000 ![1] bcast_S20000_S1x20000_1 (res_main_while0b_v34 V0)))) : (Proc.devRef .tc main_while0b_v58 : DevRef τ sig).ty.Contents (Elt F)) = Cert.ReferenceIdeal.Step.b49 j s := by
  unfold Cert.ReferenceIdeal.Step.b49
  rw [← al_44 h, ← al_36 h]
  try rfl
set_option maxRecDepth 8192 in
theorem al_50 (h : Holds V0 s j) : (constant S_ .f32 0x00000000#32 : (Proc.devRef .tc main_while0b_cst_12 : DevRef τ sig).ty.Contents (Elt F)) = Cert.ReferenceIdeal.Step.b50 j s := by
  unfold Cert.ReferenceIdeal.Step.b50
  rfl
set_option maxRecDepth 8192 in
theorem al_51 (h : Holds V0 s j) : (broadcastInDim S20x20000 ![] bcast_S_S20x20000 (constant S_ .f32 0x00000000#32) : (Proc.devRef .tc main_while0b_v59 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (maximumf (subf (minimumf (broadcastInDim S20x20000 ![0, 1] bcast_S20x1_S20x20000_0_1 (res_main_while0b_v30 V0)) (broadcastInDim S20x20000 ![0, 1] bcast_S1x20000_S20x20000_0_1 (broadcastInDim S1x20000 ![1] bcast_S20000_S1x20000_1 (res_main_while0b_v38 V0)))) (maximumf (broadcastInDim S20x20000 ![0, 1] bcast_S20x1_S20x20000_0_1 (res_main_while0b_v28 V0)) (broadcastInDim S20x20000 ![0, 1] bcast_S1x20000_S20x20000_0_1 (broadcastInDim S1x20000 ![1] bcast_S20000_S1x20000_1 (res_main_while0b_v34 V0))))) (broadcastInDim S20x20000 ![] bcast_S_S20x20000 (constant S_ .f32 0x00000000#32)) : (Proc.devRef .tc main_while0b_v60 : DevRef τ sig).ty.Contents (Elt F)) = Cert.ReferenceIdeal.Step.b52 j s := by
  unfold Cert.ReferenceIdeal.Step.b52
  rw [← al_49 h, ← al_51 h]
  try rfl
set_option maxRecDepth 8192 in
theorem al_53 (h : Holds V0 s j) : (res_main_while0b_v61 V0 : (Proc.devRef .tc main_while0b_v61 : DevRef τ sig).ty.Contents (Elt F)) = Cert.ReferenceIdeal.Step.b53 j s := by
  unfold res_main_while0b_v61 Cert.ReferenceIdeal.Step.b53
  rw [← al_48 h, ← al_52 h]
  try rfl
set_option maxRecDepth 8192 in
theorem al_54 (h : Holds V0 s j) : (subf (res_main_while0b_v29 V0) (res_main_while0b_v27 V0) : (Proc.devRef .tc main_while0b_v62 : DevRef τ sig).ty.Contents (Elt F)) = Cert.ReferenceIdeal.Step.b54 j s := by
  unfold Cert.ReferenceIdeal.Step.b54
  rw [← al_19 h, ← al_17 h]
  try rfl
set_option maxRecDepth 8192 in
theorem al_55 (h : Holds V0 s j) : (constant S_ .f32 0x00000000#32 : (Proc.devRef .tc main_while0b_cst_13 : DevRef τ sig).ty.Contents (Elt F)) = Cert.ReferenceIdeal.Step.b55 j s := by
  unfold Cert.ReferenceIdeal.Step.b55
  rfl
set_option maxRecDepth 8192 in
theorem al_56 (h : Holds V0 s j) : (broadcastInDim S20x1 ![] bcast_S_S20x1 (constant S_ .f32 0x00000000#32) : (Proc.devRef .tc main_while0b_v63 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (maximumf (subf (res_main_while0b_v29 V0) (res_main_while0b_v27 V0)) (broadcastInDim S20x1 ![] bcast_S_S20x1 (constant S_ .f32 0x00000000#32)) : (Proc.devRef .tc main_while0b_v64 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (subf (res_main_while0b_v30 V0) (res_main_while0b_v28 V0) : (Proc.devRef .tc main_while0b_v65 : DevRef τ sig).ty.Contents (Elt F)) = Cert.ReferenceIdeal.Step.b58 j s := by
  unfold Cert.ReferenceIdeal.Step.b58
  rw [← al_20 h, ← al_18 h]
  try rfl
set_option maxRecDepth 8192 in
theorem al_59 (h : Holds V0 s j) : (constant S_ .f32 0x00000000#32 : (Proc.devRef .tc main_while0b_cst_14 : DevRef τ sig).ty.Contents (Elt F)) = Cert.ReferenceIdeal.Step.b59 j s := by
  unfold Cert.ReferenceIdeal.Step.b59
  rfl
set_option maxRecDepth 8192 in
theorem al_60 (h : Holds V0 s j) : (broadcastInDim S20x1 ![] bcast_S_S20x1 (constant S_ .f32 0x00000000#32) : (Proc.devRef .tc main_while0b_v66 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (maximumf (subf (res_main_while0b_v30 V0) (res_main_while0b_v28 V0)) (broadcastInDim S20x1 ![] bcast_S_S20x1 (constant S_ .f32 0x00000000#32)) : (Proc.devRef .tc main_while0b_v67 : DevRef τ sig).ty.Contents (Elt F)) = Cert.ReferenceIdeal.Step.b61 j s := by
  unfold Cert.ReferenceIdeal.Step.b61
  rw [← al_58 h, ← al_60 h]
  try rfl
set_option maxRecDepth 8192 in
theorem al_62 (h : Holds V0 s j) : (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))) : (Proc.devRef .tc main_while0b_v68 : DevRef τ sig).ty.Contents (Elt F)) = Cert.ReferenceIdeal.Step.b62 j s := by
  unfold Cert.ReferenceIdeal.Step.b62
  rw [← al_57 h, ← al_61 h]
  try rfl
set_option maxRecDepth 8192 in
theorem al_63 (h : Holds V0 s j) : (subf (res_main_while0b_v36 V0) (res_main_while0b_v32 V0) : (Proc.devRef .tc main_while0b_v69 : DevRef τ sig).ty.Contents (Elt F)) = Cert.ReferenceIdeal.Step.b63 j s := by
  unfold Cert.ReferenceIdeal.Step.b63
  rw [← al_26 h, ← al_22 h]
  try rfl
set_option maxRecDepth 8192 in
theorem al_64 (h : Holds V0 s j) : (constant S_ .f32 0x00000000#32 : (Proc.devRef .tc main_while0b_cst_15 : DevRef τ sig).ty.Contents (Elt F)) = Cert.ReferenceIdeal.Step.b64 j s := by
  unfold Cert.ReferenceIdeal.Step.b64
  rfl
set_option maxRecDepth 8192 in
theorem al_65 (h : Holds V0 s j) : (broadcastInDim S20000 ![] bcast_S_S20000 (constant S_ .f32 0x00000000#32) : (Proc.devRef .tc main_while0b_v70 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (maximumf (subf (res_main_while0b_v36 V0) (res_main_while0b_v32 V0)) (broadcastInDim S20000 ![] bcast_S_S20000 (constant S_ .f32 0x00000000#32)) : (Proc.devRef .tc main_while0b_v71 : DevRef τ sig).ty.Contents (Elt F)) = Cert.ReferenceIdeal.Step.b66 j s := by
  unfold Cert.ReferenceIdeal.Step.b66
  rw [← al_63 h, ← al_65 h]
  try rfl
set_option maxRecDepth 8192 in
theorem al_67 (h : Holds V0 s j) : (subf (res_main_while0b_v38 V0) (res_main_while0b_v34 V0) : (Proc.devRef .tc main_while0b_v72 : DevRef τ sig).ty.Contents (Elt F)) = Cert.ReferenceIdeal.Step.b67 j s := by
  unfold Cert.ReferenceIdeal.Step.b67
  rw [← al_28 h, ← al_24 h]
  try rfl
set_option maxRecDepth 8192 in
theorem al_68 (h : Holds V0 s j) : (constant S_ .f32 0x00000000#32 : (Proc.devRef .tc main_while0b_cst_16 : DevRef τ sig).ty.Contents (Elt F)) = Cert.ReferenceIdeal.Step.b68 j s := by
  unfold Cert.ReferenceIdeal.Step.b68
  rfl
set_option maxRecDepth 8192 in
theorem al_69 (h : Holds V0 s j) : (broadcastInDim S20000 ![] bcast_S_S20000 (constant S_ .f32 0x00000000#32) : (Proc.devRef .tc main_while0b_v73 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (maximumf (subf (res_main_while0b_v38 V0) (res_main_while0b_v34 V0)) (broadcastInDim S20000 ![] bcast_S_S20000 (constant S_ .f32 0x00000000#32)) : (Proc.devRef .tc main_while0b_v74 : DevRef τ sig).ty.Contents (Elt F)) = Cert.ReferenceIdeal.Step.b70 j s := by
  unfold Cert.ReferenceIdeal.Step.b70
  rw [← al_67 h, ← al_69 h]
  try rfl
set_option maxRecDepth 8192 in
theorem al_71 (h : Holds V0 s j) : (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))) : (Proc.devRef .tc main_while0b_v75 : DevRef τ sig).ty.Contents (Elt F)) = Cert.ReferenceIdeal.Step.b71 j s := by
  unfold Cert.ReferenceIdeal.Step.b71
  rw [← al_66 h, ← al_70 h]
  try rfl
set_option maxRecDepth 8192 in
theorem al_72 (h : Holds V0 s j) : (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32)))) : (Proc.devRef .tc main_while0b_v76 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32)))) : (Proc.devRef .tc main_while0b_v77 : DevRef τ sig).ty.Contents (Elt F)) = Cert.ReferenceIdeal.Step.b73 j s := by
  unfold Cert.ReferenceIdeal.Step.b73
  rw [← al_62 h]
  try rfl
set_option maxRecDepth 8192 in
theorem al_74 (h : Holds V0 s j) : (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))) : (Proc.devRef .tc main_while0b_v78 : DevRef τ sig).ty.Contents (Elt F)) = Cert.ReferenceIdeal.Step.b74 j s := by
  unfold Cert.ReferenceIdeal.Step.b74
  rw [← al_72 h]
  try rfl
set_option maxRecDepth 8192 in
theorem al_75 (h : Holds V0 s j) : (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32)))))) : (Proc.devRef .tc main_while0b_v79 : DevRef τ sig).ty.Contents (Elt F)) = Cert.ReferenceIdeal.Step.b75 j s := by
  unfold Cert.ReferenceIdeal.Step.b75
  rw [← al_73 h, ← al_74 h]
  try rfl
set_option maxRecDepth 8192 in
theorem al_76 (h : Holds V0 s j) : (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0) : (Proc.devRef .tc main_while0b_v80 : DevRef τ sig).ty.Contents (Elt F)) = Cert.ReferenceIdeal.Step.b76 j s := by
  unfold Cert.ReferenceIdeal.Step.b76
  rw [← al_75 h, ← al_53 h]
  try rfl
set_option maxRecDepth 8192 in
theorem al_77 (h : Holds V0 s j) : (constant S_ .f32 0x3089705F#32 : (Proc.devRef .tc main_while0b_cst_17 : DevRef τ sig).ty.Contents (Elt F)) = Cert.ReferenceIdeal.Step.b77 j s := by
  unfold Cert.ReferenceIdeal.Step.b77
  rfl
set_option maxRecDepth 8192 in
theorem al_78 (h : Holds V0 s j) : (broadcastInDim S20x20000 ![] bcast_S_S20x20000 (constant S_ .f32 0x3089705F#32) : (Proc.devRef .tc main_while0b_v81 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)) : (Proc.devRef .tc main_while0b_v82 : DevRef τ sig).ty.Contents (Elt F)) = Cert.ReferenceIdeal.Step.b79 j s := by
  unfold Cert.ReferenceIdeal.Step.b79
  rw [← al_76 h, ← al_78 h]
  try rfl
set_option maxRecDepth 8192 in
theorem al_80 (h : Holds V0 s j) : (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32))) : (Proc.devRef .tc main_while0b_v83 : DevRef τ sig).ty.Contents (Elt F)) = Cert.ReferenceIdeal.Step.b80 j s := by
  unfold Cert.ReferenceIdeal.Step.b80
  rw [← al_53 h, ← al_79 h]
  try rfl
set_option maxRecDepth 8192 in
theorem al_81 (h : Holds V0 s j) : (constant S_ .f32 0x3F000000#32 : (Proc.devRef .tc main_while0b_cst_18 : DevRef τ sig).ty.Contents (Elt F)) = Cert.ReferenceIdeal.Step.b81 j s := by
  unfold Cert.ReferenceIdeal.Step.b81
  rfl
set_option maxRecDepth 8192 in
theorem al_82 (h : Holds V0 s j) : (broadcastInDim S20x20000 ![] bcast_S_S20x20000 (constant S_ .f32 0x3F000000#32) : (Proc.devRef .tc main_while0b_v84 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (cmpf .ogt (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)))) (broadcastInDim S20x20000 ![] bcast_S_S20x20000 (constant S_ .f32 0x3F000000#32)) : (Proc.devRef .tc main_while0b_v85 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (broadcastInDim S20x20000 ![0, 1] bcast_S20x1_S20x20000_0_1 (broadcastInDim S20x1 ![0] bcast_S20_S20x1_0 (res_main_while0b_v18 V0)) : (Proc.devRef .tc main_while0b_v86 : DevRef τ sig).ty.Contents (Elt F)) = Cert.ReferenceIdeal.Step.b84 j s := by
  unfold Cert.ReferenceIdeal.Step.b84
  rw [← al_16 h]
  try rfl
set_option maxRecDepth 8192 in
theorem al_85 (h : Holds V0 s j) : (andi (broadcastInDim S20x20000 ![0, 1] bcast_S20x1_S20x20000_0_1 (broadcastInDim S20x1 ![0] bcast_S20_S20x1_0 (res_main_while0b_v18 V0))) (cmpf .ogt (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)))) (broadcastInDim S20x20000 ![] bcast_S_S20x20000 (constant S_ .f32 0x3F000000#32))) : (Proc.devRef .tc main_while0b_v87 : DevRef τ sig).ty.Contents (Elt F)) = Cert.ReferenceIdeal.Step.b85 j s := by
  unfold Cert.ReferenceIdeal.Step.b85
  rw [← al_84 h, ← al_83 h]
  try rfl
set_option maxRecDepth 8192 in
theorem al_86 (h : Holds V0 s j) : (constant S_ .f32 0xF149F2CA#32 : (Proc.devRef .tc main_while0b_cst_19 : DevRef τ sig).ty.Contents (Elt F)) = Cert.ReferenceIdeal.Step.b86 j s := by
  unfold Cert.ReferenceIdeal.Step.b86
  rfl
set_option maxRecDepth 8192 in
theorem al_87 (h : Holds V0 s j) : (id (constant S_ .f32 0xF149F2CA#32) : (Proc.devRef .tc main_while0b_call1_v0 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (broadcastInDim S20x20000 ![] bcast_S_S20x20000 (id (constant S_ .f32 0xF149F2CA#32)) : (Proc.devRef .tc main_while0b_call1_v1 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (select (andi (broadcastInDim S20x20000 ![0, 1] bcast_S20x1_S20x20000_0_1 (broadcastInDim S20x1 ![0] bcast_S20_S20x1_0 (res_main_while0b_v18 V0))) (cmpf .ogt (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)))) (broadcastInDim S20x20000 ![] bcast_S_S20x20000 (constant S_ .f32 0x3F000000#32)))) (broadcastInDim S20x20000 ![] bcast_S_S20x20000 (id (constant S_ .f32 0xF149F2CA#32))) (V0 (Proc.devRef .tc main_v7_3)) : (Proc.devRef .tc main_while0b_v88 : DevRef τ sig).ty.Contents (Elt F)) = Cert.ReferenceIdeal.Step.b89 j s := by
  unfold Cert.ReferenceIdeal.Step.b89
  rw [← al_85 h, ← al_88 h, h.f_3]
  try rfl
set_option maxRecDepth 8192 in
theorem al_90 (h : Holds V0 s j) : (broadcastInDim S20x1 ![0] bcast_S20_S20x1_0 (res_main_while0b_v16 V0) : (Proc.devRef .tc main_while0b_v89 : DevRef τ sig).ty.Contents (Elt F)) = Cert.ReferenceIdeal.Step.b90 j s := by
  unfold Cert.ReferenceIdeal.Step.b90
  rw [← al_3 h]
  try rfl
set_option maxRecDepth 8192 in
theorem al_91 (h : Holds V0 s j) : (broadcastInDim S20x20000 ![0, 1] bcast_S20x1_S20x20000_0_1 (broadcastInDim S20x1 ![0] bcast_S20_S20x1_0 (res_main_while0b_v16 V0)) : (Proc.devRef .tc main_while0b_v90 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (cmpi .eq (V0 (Proc.devRef .tc main_v7_1)) (broadcastInDim S20x20000 ![0, 1] bcast_S20x1_S20x20000_0_1 (broadcastInDim S20x1 ![0] bcast_S20_S20x1_0 (res_main_while0b_v16 V0))) : (Proc.devRef .tc main_while0b_v91 : DevRef τ sig).ty.Contents (Elt F)) = Cert.ReferenceIdeal.Step.b92 j s := by
  unfold Cert.ReferenceIdeal.Step.b92
  rw [← al_91 h, h.k_1]
  try rfl
set_option maxRecDepth 8192 in
theorem al_93 (h : Holds V0 s j) : (constant S_ .f32 0xF149F2CA#32 : (Proc.devRef .tc main_while0b_cst_20 : DevRef τ sig).ty.Contents (Elt F)) = Cert.ReferenceIdeal.Step.b93 j s := by
  unfold Cert.ReferenceIdeal.Step.b93
  rfl
set_option maxRecDepth 8192 in
theorem al_94 (h : Holds V0 s j) : (id (constant S_ .f32 0xF149F2CA#32) : (Proc.devRef .tc main_while0b_call2_v0 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (broadcastInDim S20x20000 ![] bcast_S_S20x20000 (id (constant S_ .f32 0xF149F2CA#32)) : (Proc.devRef .tc main_while0b_call2_v1 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (select (cmpi .eq (V0 (Proc.devRef .tc main_v7_1)) (broadcastInDim S20x20000 ![0, 1] bcast_S20x1_S20x20000_0_1 (broadcastInDim S20x1 ![0] bcast_S20_S20x1_0 (res_main_while0b_v16 V0)))) (broadcastInDim S20x20000 ![] bcast_S_S20x20000 (id (constant S_ .f32 0xF149F2CA#32))) (select (andi (broadcastInDim S20x20000 ![0, 1] bcast_S20x1_S20x20000_0_1 (broadcastInDim S20x1 ![0] bcast_S20_S20x1_0 (res_main_while0b_v18 V0))) (cmpf .ogt (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)))) (broadcastInDim S20x20000 ![] bcast_S_S20x20000 (constant S_ .f32 0x3F000000#32)))) (broadcastInDim S20x20000 ![] bcast_S_S20x20000 (id (constant S_ .f32 0xF149F2CA#32))) (V0 (Proc.devRef .tc main_v7_3))) : (Proc.devRef .tc main_while0b_v92 : DevRef τ sig).ty.Contents (Elt F)) = Cert.ReferenceIdeal.Step.b96 j s := by
  unfold Cert.ReferenceIdeal.Step.b96
  rw [← al_92 h, ← al_95 h, ← al_89 h]
  try rfl
set_option maxRecDepth 8192 in
theorem al_97 (h : Holds V0 s j) : (broadcastInDim S20x1 ![0] bcast_S20_S20x1_0 (res_main_while0b_v18 V0) : (Proc.devRef .tc main_while0b_v93 : DevRef τ sig).ty.Contents (Elt F)) = Cert.ReferenceIdeal.Step.b97 j s := by
  unfold Cert.ReferenceIdeal.Step.b97
  rw [← al_6 h]
  try rfl
set_option maxRecDepth 8192 in
theorem al_98 (h : Holds V0 s j) : (constant S_ .f32 0x00000000#32 : (Proc.devRef .tc main_while0b_cst_21 : DevRef τ sig).ty.Contents (Elt F)) = Cert.ReferenceIdeal.Step.b98 j s := by
  unfold Cert.ReferenceIdeal.Step.b98
  rfl
set_option maxRecDepth 8192 in
theorem al_99 (h : Holds V0 s j) : (id (constant S_ .f32 0x00000000#32) : (Proc.devRef .tc main_while0b_call3_v0 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (broadcastInDim S20x4 ![0, 1] bcast_S20x1_S20x4_0_1 (broadcastInDim S20x1 ![0] bcast_S20_S20x1_0 (res_main_while0b_v18 V0)) : (Proc.devRef .tc main_while0b_call3_v1 : DevRef τ sig).ty.Contents (Elt F)) = Cert.ReferenceIdeal.Step.b100 j s := by
  unfold Cert.ReferenceIdeal.Step.b100
  rw [← al_97 h]
  try rfl
set_option maxRecDepth 8192 in
theorem al_101 (h : Holds V0 s j) : (broadcastInDim S20x4 ![] bcast_S_S20x4 (id (constant S_ .f32 0x00000000#32)) : (Proc.devRef .tc main_while0b_call3_v2 : DevRef τ sig).ty.Contents (Elt F)) = Cert.ReferenceIdeal.Step.b101 j s := by
  unfold Cert.ReferenceIdeal.Step.b101
  rw [← al_99 h]
  try rfl
set_option maxRecDepth 8192 in
theorem al_102 (h : Holds V0 s j) : (select (broadcastInDim S20x4 ![0, 1] bcast_S20x1_S20x4_0_1 (broadcastInDim S20x1 ![0] bcast_S20_S20x1_0 (res_main_while0b_v18 V0))) (res_main_while0b_v25 V0) (broadcastInDim S20x4 ![] bcast_S_S20x4 (id (constant S_ .f32 0x00000000#32))) : (Proc.devRef .tc main_while0b_v94 : DevRef τ sig).ty.Contents (Elt F)) = Cert.ReferenceIdeal.Step.b102 j s := by
  unfold Cert.ReferenceIdeal.Step.b102
  rw [← al_100 h, ← al_15 h, ← al_101 h]
  try rfl
set_option maxRecDepth 8192 in
theorem al_103 (h : Holds V0 s j) : (constant S_ .f32 0x00000000#32 : (Proc.devRef .tc main_while0b_cst_22 : DevRef τ sig).ty.Contents (Elt F)) = Cert.ReferenceIdeal.Step.b103 j s := by
  unfold Cert.ReferenceIdeal.Step.b103
  rfl
set_option maxRecDepth 8192 in
theorem al_104 (h : Holds V0 s j) : (id (constant S_ .f32 0x00000000#32) : (Proc.devRef .tc main_while0b_call4_v0 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (broadcastInDim S20 ![] bcast_S_S20 (id (constant S_ .f32 0x00000000#32)) : (Proc.devRef .tc main_while0b_call4_v1 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (select (res_main_while0b_v18 V0) (res_main_while0b_v15 V0) (broadcastInDim S20 ![] bcast_S_S20 (id (constant S_ .f32 0x00000000#32))) : (Proc.devRef .tc main_while0b_v95 : DevRef τ sig).ty.Contents (Elt F)) = Cert.ReferenceIdeal.Step.b106 j s := by
  unfold Cert.ReferenceIdeal.Step.b106
  rw [← al_6 h, ← al_2 h, ← al_105 h]
  try rfl
set_option maxRecDepth 8192 in
theorem al_107 (h : Holds V0 s j) : (broadcastInDim S1x20x4 ![1, 2] bcast_S20x4_S1x20x4_1_2 (select (broadcastInDim S20x4 ![0, 1] bcast_S20x1_S20x4_0_1 (broadcastInDim S20x1 ![0] bcast_S20_S20x1_0 (res_main_while0b_v18 V0))) (res_main_while0b_v25 V0) (broadcastInDim S20x4 ![] bcast_S_S20x4 (id (constant S_ .f32 0x00000000#32)))) : (Proc.devRef .tc main_while0b_call5_v0 : DevRef τ sig).ty.Contents (Elt F)) = Cert.ReferenceIdeal.Step.b107 j s := by
  unfold Cert.ReferenceIdeal.Step.b107
  rw [← al_102 h]
  try rfl
set_option maxRecDepth 8192 in
theorem al_108 (h : Holds V0 s j) : (constantI S_ 32 0#32 : (Proc.devRef .tc main_while0b_call5_c : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call5_c_0 : DevRef τ sig).ty.Contents (Elt F)) = Cert.ReferenceIdeal.Step.b109 j s := by
  unfold Cert.ReferenceIdeal.Step.b109
  rfl
set_option maxRecDepth 8192 in
theorem al_110 (h : Holds V0 s j) : (Host.dynamicUpdateSlice (V0 (Proc.devRef .tc main_v7_4)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v18 V0))) (res_main_while0b_v25 V0) (broadcastInDim S20x4 ![] bcast_S_S20x4 (id (constant S_ .f32 0x00000000#32))))) (fun k => (((![V0 (Proc.devRef .tc main_v7_2), constantI S_ 32 0#32, constantI S_ 32 0#32] : Fin 3 → (⟨S_, .i32⟩ : BufTy).Contents (Elt F))) k (Shape.Idx.first h_S_)).toInt) updateFits_S20x20x4_S1x20x4 : (Proc.devRef .tc main_while0b_v96 : DevRef τ sig).ty.Contents (Elt F)) = Cert.ReferenceIdeal.Step.b110 j s := by
  unfold Cert.ReferenceIdeal.Step.b110
  rw [← al_107 h, ← al_108 h, ← al_109 h, h.f_4, h.n_2]
  try rfl
set_option maxRecDepth 8192 in
theorem al_111 (h : Holds V0 s j) : (broadcastInDim S1x20 ![1] bcast_S20_S1x20_1 (select (res_main_while0b_v18 V0) (res_main_while0b_v15 V0) (broadcastInDim S20 ![] bcast_S_S20 (id (constant S_ .f32 0x00000000#32)))) : (Proc.devRef .tc main_while0b_call6_v0 : DevRef τ sig).ty.Contents (Elt F)) = Cert.ReferenceIdeal.Step.b111 j s := by
  unfold Cert.ReferenceIdeal.Step.b111
  rw [← al_106 h]
  try rfl
set_option maxRecDepth 8192 in
theorem al_112 (h : Holds V0 s j) : (constantI S_ 32 0#32 : (Proc.devRef .tc main_while0b_call6_c : DevRef τ sig).ty.Contents (Elt F)) = Cert.ReferenceIdeal.Step.b112 j s := by
  unfold Cert.ReferenceIdeal.Step.b112
  rfl
set_option maxRecDepth 8192 in
theorem al_113 (h : Holds V0 s j) : (Host.dynamicUpdateSlice (V0 (Proc.devRef .tc main_v7_5)) (broadcastInDim S1x20 ![1] bcast_S20_S1x20_1 (select (res_main_while0b_v18 V0) (res_main_while0b_v15 V0) (broadcastInDim S20 ![] bcast_S_S20 (id (constant S_ .f32 0x00000000#32))))) (fun k => (((![V0 (Proc.devRef .tc main_v7_2), constantI S_ 32 0#32] : Fin 2 → (⟨S_, .i32⟩ : BufTy).Contents (Elt F))) k (Shape.Idx.first h_S_)).toInt) updateFits_S20x20_S1x20 : (Proc.devRef .tc main_while0b_v97 : DevRef τ sig).ty.Contents (Elt F)) = Cert.ReferenceIdeal.Step.b113 j s := by
  unfold Cert.ReferenceIdeal.Step.b113
  rw [← al_111 h, ← al_112 h, h.f_5, h.n_2]
  try rfl

/-! One trip's step of the carried values is `step`, field by field; a counter steps to the next number. -/

theorem step_3 (h : Holds V0 s j) : step_main_v7_3 V0 = (step j s).main_v7_3 := by
  unfold step_main_v7_3 Cert.ReferenceIdeal.Step.step
  show id (select (cmpi .eq (V0 (Proc.devRef .tc main_v7_1)) (broadcastInDim S20x20000 ![0, 1] bcast_S20x1_S20x20000_0_1 (broadcastInDim S20x1 ![0] bcast_S20_S20x1_0 (res_main_while0b_v16 V0)))) (broadcastInDim S20x20000 ![] bcast_S_S20x20000 (id (constant S_ .f32 0xF149F2CA#32))) (select (andi (broadcastInDim S20x20000 ![0, 1] bcast_S20x1_S20x20000_0_1 (broadcastInDim S20x1 ![0] bcast_S20_S20x1_0 (res_main_while0b_v18 V0))) (cmpf .ogt (Host.divf (res_main_while0b_v61 V0) (maximumf (subf (addf (broadcastInDim S20x20000 ![0, 1] bcast_S20x1_S20x20000_0_1 (mulf (maximumf (subf (res_main_while0b_v29 V0) (res_main_while0b_v27 V0)) (broadcastInDim S20x1 ![] bcast_S_S20x1 (constant S_ .f32 0x00000000#32))) (maximumf (subf (res_main_while0b_v30 V0) (res_main_while0b_v28 V0)) (broadcastInDim S20x1 ![] bcast_S_S20x1 (constant S_ .f32 0x00000000#32))))) (broadcastInDim S20x20000 ![0, 1] bcast_S1x20000_S20x20000_0_1 (broadcastInDim S1x20000 ![1] bcast_S20000_S1x20000_1 (mulf (maximumf (subf (res_main_while0b_v36 V0) (res_main_while0b_v32 V0)) (broadcastInDim S20000 ![] bcast_S_S20000 (constant S_ .f32 0x00000000#32))) (maximumf (subf (res_main_while0b_v38 V0) (res_main_while0b_v34 V0)) (broadcastInDim S20000 ![] bcast_S_S20000 (constant S_ .f32 0x00000000#32))))))) (res_main_while0b_v61 V0)) (broadcastInDim S20x20000 ![] bcast_S_S20x20000 (constant S_ .f32 0x3089705F#32)))) (broadcastInDim S20x20000 ![] bcast_S_S20x20000 (constant S_ .f32 0x3F000000#32)))) (broadcastInDim S20x20000 ![] bcast_S_S20x20000 (id (constant S_ .f32 0xF149F2CA#32))) (V0 (Proc.devRef .tc main_v7_3)))) = _
  rw [al_96 h]
  try rfl
theorem step_4 (h : Holds V0 s j) : step_main_v7_4 V0 = (step j s).main_v7_4 := by
  unfold step_main_v7_4 Cert.ReferenceIdeal.Step.step
  show id (Host.dynamicUpdateSlice (V0 (Proc.devRef .tc main_v7_4)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v18 V0))) (res_main_while0b_v25 V0) (broadcastInDim S20x4 ![] bcast_S_S20x4 (id (constant S_ .f32 0x00000000#32))))) (fun k => (((![V0 (Proc.devRef .tc main_v7_2), constantI S_ 32 0#32, constantI S_ 32 0#32] : Fin 3 → (⟨S_, .i32⟩ : BufTy).Contents (Elt F))) k (Shape.Idx.first h_S_)).toInt) updateFits_S20x20x4_S1x20x4) = _
  exact al_110 h
theorem step_5 (h : Holds V0 s j) : step_main_v7_5 V0 = (step j s).main_v7_5 := by
  unfold step_main_v7_5 Cert.ReferenceIdeal.Step.step
  show id (Host.dynamicUpdateSlice (V0 (Proc.devRef .tc main_v7_5)) (broadcastInDim S1x20 ![1] bcast_S20_S1x20_1 (select (res_main_while0b_v18 V0) (res_main_while0b_v15 V0) (broadcastInDim S20 ![] bcast_S_S20 (id (constant S_ .f32 0x00000000#32))))) (fun k => (((![V0 (Proc.devRef .tc main_v7_2), constantI S_ 32 0#32] : Fin 2 → (⟨S_, .i32⟩ : BufTy).Contents (Elt F))) k (Shape.Idx.first h_S_)).toInt) updateFits_S20x20_S1x20) = _
  exact al_113 h
theorem step_2 (h : Holds V0 s j) : step_main_v7_2 V0 = constantI S_ 32 (BitVec.ofNat 32 (j + 1)) := by
  unfold step_main_v7_2
  rw [h.n_2]
  funext i
  show BitVec.ofNat 32 j + 1#32 = BitVec.ofNat 32 (j + 1)
  simp only [BitVec.ofNat_add]

set_option maxRecDepth 8192 in
theorem out_main_v9_holds (h : Holds V0 s j) : out_main_v9 V0 = Cert.ReferenceIdeal.Step.R_main_v9 s := by
  unfold out_main_v9 Cert.ReferenceIdeal.Step.R_main_v9
  rw [h.f_4]
  try rfl

set_option maxRecDepth 8192 in
theorem out_main_v11_holds (h : Holds V0 s j) : out_main_v11 V0 = Cert.ReferenceIdeal.Step.R_main_v11 s := by
  unfold out_main_v11 Cert.ReferenceIdeal.Step.R_main_v11
  rw [h.f_5]
  try rfl

set_option maxRecDepth 8192 in
theorem out_main_v14_holds (h : Holds V0 s j) : out_main_v14 V0 = Cert.ReferenceIdeal.Step.R_main_v14 s := by
  unfold out_main_v14 Cert.ReferenceIdeal.Step.R_main_v14
  rw []
  try rfl

/-- One trip keeps the valuation holding: `step` of the state, the same set-up values, the next number. -/
theorem holds_step (h : Holds V0 s j) : Holds (STEP V0) (step j s) (j + 1) where
  f_3 := (STEP_main_v7_3 V0).trans (step_3 h)
  f_4 := (STEP_main_v7_4 V0).trans (step_4 h)
  f_5 := (STEP_main_v7_5 V0).trans (step_5 h)
  n_2 := (STEP_main_v7_2 V0).trans (step_2 h)
  k_1 := (STEP_main_v7_1 V0).trans h.k_1
  f_0 := (STEP_main_v7_0 V0).trans h.f_0

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 20 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v9) = Cert.ReferenceIdeal.Step.R_main_v9 (it c 20)
      ∧ r.2.mem ((c.tc : Thread nD τ).loc main_v11) = Cert.ReferenceIdeal.Step.R_main_v11 (it c 20)
      ∧ r.2.mem ((c.tc : Thread nD τ).loc main_v14) = Cert.ReferenceIdeal.Step.R_main_v14 (it c 20)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 20
    ⟨(h c).1.trans (out_main_v9_holds hk), (h c).2.1.trans (out_main_v11_holds hk), (h c).2.2.1.trans (out_main_v14_holds hk), (h c).2.2.2.1, (h c).2.2.2.2⟩) (Value.run m ρ)

end Cert.Proof.RefRun

end
-- ==== Proof.Nms.RefValue.lean ====
/- One trip of the reference's loop, read on each of its twenty rows of scores. -/
module

public import proofs.«01_k».proof.Proof.Nms.Row
public import proofs.«01_k».proof.Proof.Gen.ReferenceIdeal.Step
public import Idealize.ShloMosaic.Lib.Pointwise
public import Idealize.ShloMosaic.Lib.Pipeline.Value

@[expose] public section

set_option maxRecDepth 16384

noncomputable section

namespace Cert.Proof

open Idealize.ShloMosaic Cert.ReferenceIdeal Cert.ReferenceIdeal.Gen Cert.ReferenceIdeal.Step

theorem along_row (r : Fin 20) (k0 k : Fin 20000) : Shape.Idx.along (ix2 r k0 : S20x20000.Idx) 1 k = ix2 r k := by
  funext a
  match a with
  | ⟨0, _⟩ => rfl
  | ⟨1, _⟩ => rfl

/-- The comparison by which the reference orders its scores. -/
theorem greater_iff (x y : EReal) : ((FloatOps.cmpfTotal (F := Ideal) (φ := .f32) .gt x y == 1#1) : Bool) = decide (y < x) := by
  rw [Ideal.cmpfTotal_def]
  unfold Ideal.cmp
  by_cases h : y < x <;> simp [CmpDirection.ordered, h]

/-- Where the sort of a row puts its head from. -/
theorem head_of_sort (x : FVec Ideal S20x20000 .f32) (r : Fin 20) (i : S20x20000.Idx) (hi : i = ix2 r 0) :
    (i.along 1 (sortedFrom (fun k k' => FloatOps.cmpfTotal (F := Ideal) (φ := .f32) .gt (x (i.along 1 k)) (x (i.along 1 k')) == 1#1) (i 1)) : S20x20000.Idx)
      = ix2 r (first fun j => x (ix2 r j)) := by
  subst hi
  refine (along_row r 0 _).trans (congrArg (fun k : Fin 20000 => (ix2 r k : S20x20000.Idx)) ?_)
  unfold first
  refine congrFun (sortedFrom_congr (n := 20000) _ _ fun k k' _ => ?_) 0
  rw [greater_iff, along_row r 0 k, along_row r 0 k']

theorem zero_col (r : Fin 20) : (fun a => ⟨0 + ((ix2 r 0 : S20x1.Idx) (a.cast rfl)).val, by
    match a with
    | ⟨0, _⟩ => show 0 + r.val < 20; omega
    | ⟨1, _⟩ => show 0 + 0 < 20000; omega⟩ : S20x20000.Idx) = ix2 r 0 := by
  funext a
  match a with
  | ⟨0, _⟩ => exact Fin.ext (Nat.zero_add _)
  | ⟨1, _⟩ => rfl

/-- The greatest score of a row. -/
theorem top_value (x : FVec Ideal S20x20000 .f32) (r : Fin 20) :
    (Host.topK S20x1 1 (FloatOps.cmpfTotal .gt) x sliceFits_S20x20000_S20x1).1 (ix2 r 0) = x (ix2 r (first fun j => x (ix2 r j))) := by
  refine congrArg x (head_of_sort x r _ ?_)
  exact zero_col r

/-- Where a row's greatest score is. -/
theorem top_index (x : FVec Ideal S20x20000 .f32) (r : Fin 20) :
    (Host.topK S20x1 1 (FloatOps.cmpfTotal .gt) x sliceFits_S20x20000_S20x1).2 (ix2 r 0) = BitVec.ofNat 32 (first fun j => x (ix2 r j)).val := by
  refine (congrArg (iotaInDim S20x20000 32 1) (head_of_sort x r _ ?_)).trans ?_
  · exact zero_col r
  · rfl

/-- The reference's selection of a box row by its position. -/
theorem gather_row (x : FVec Ideal S20000x4 .f32) (idx : IVec S20x1 32) (r : Fin 20) (d : Fin 4) (k : Fin 20000)
    (hk : idx (ix2 r 0) = BitVec.ofNat 32 k.val) :
    Host.gather gather_S20000x4_S20x1_S20x4_1_0_n_n_0_1_14 x idx (ix2 r d) = x (ix2 k d) := by
  unfold Host.gather
  congr 1
  funext a
  apply Fin.ext
  match a with
  | ⟨0, _⟩ =>
    have h : GatherDims.siIdx gather_S20000x4_S20x1_S20x4_1_0_n_n_0_1_14 (ix2 r d) ⟨0, by decide⟩ = ix2 r 0 := by
      funext b
      match b with
      | ⟨0, _⟩ => rfl
      | ⟨1, _⟩ => rfl
    have e : min (idx (GatherDims.siIdx gather_S20000x4_S20x1_S20x4_1_0_n_n_0_1_14 (ix2 r d) ⟨0, by decide⟩)).toInt.toNat (20000 - 1) + 0 + 0 = k.val := by
      rw [h, hk, toInt_ofNat_small _ (by omega)]
      omega
    exact e
  | ⟨1, _⟩ =>
    have e : 0 + 0 + d.val = d.val := by omega
    exact e

open Classical in
theorem select_step (j i : Fin 20000) (p q : Prop) [Decidable p] [Decidable q] (x y : EReal) :
    Scalar.select (IntOp.cmpi .eq (BitVec.ofNat 32 j.val) (BitVec.ofNat 32 i.val)) x
      (Scalar.select (IntOp.andi (BitVec.ofBool (decide q)) (BitVec.ofBool (decide p))) x y) = if j = i ∨ (q ∧ p) then x else y := by
  have h : IntOp.cmpi .eq (BitVec.ofNat 32 j.val) (BitVec.ofNat 32 i.val) = BitVec.ofBool (decide (j = i)) := by
    unfold IntOp.cmpi
    dsimp only
    congr 1
    rw [Bool.eq_iff_iff, beq_iff_eq, decide_eq_true_iff]
    exact ofNat_inj j i
  rw [h]
  unfold Scalar.select IntOp.andi
  by_cases hp : p <;> by_cases hq : q <;> by_cases he : j = i <;> simp [hp, hq, he]

theorem select_decide (p : Prop) [Decidable p] (x y : EReal) : Scalar.select (BitVec.ofBool (decide p)) x y = if p then x else y := by
  unfold Scalar.select
  by_cases h : p <;> simp [h]

/-- A round's boxes written into the boxes of all rounds. -/
theorem put_boxes (x : FVec Ideal S20x20x4 .f32) (u : FVec Ideal S1x20x4 .f32) (st : Fin 3 → ℤ) (n : ℕ)
    (h0 : st 0 = n) (h1 : st 1 = 0) (h2 : st 2 = 0) (hn : n < 20) (k r : Fin 20) (d : Fin 4) :
    Host.dynamicUpdateSlice x u st updateFits_S20x20x4_S1x20x4 (ix3 k r d) = if k.val = n then u (ix3 0 r d) else x (ix3 k r d) := by
  pointwise
  have e0 : Host.clampedStart S20x20x4 S1x20x4 rfl st 0 = n := by
    show (min (max (st 0) 0) ((20 - 1 : ℕ) : ℤ)).toNat = n
    omega
  have e1 : Host.clampedStart S20x20x4 S1x20x4 rfl st 1 = 0 := by
    show (min (max (st 1) 0) ((20 - 20 : ℕ) : ℤ)).toNat = 0
    omega
  have e2 : Host.clampedStart S20x20x4 S1x20x4 rfl st 2 = 0 := by
    show (min (max (st 2) 0) ((4 - 4 : ℕ) : ℤ)).toNat = 0
    omega
  by_cases hk : k.val = n
  · rw [dif_pos (by omega), if_pos hk]
    refine congrArg u ?_
    funext a
    apply Fin.ext
    match a with
    | ⟨0, _⟩ => show k.val - Host.clampedStart S20x20x4 S1x20x4 rfl st 0 = 0; omega
    | ⟨1, _⟩ => show r.val - Host.clampedStart S20x20x4 S1x20x4 rfl st 1 = r.val; omega
    | ⟨2, _⟩ => show d.val - Host.clampedStart S20x20x4 S1x20x4 rfl st 2 = d.val; omega
  · rw [dif_neg (by omega), if_neg hk]

/-- A round's scores written into the scores of all rounds. -/
theorem put_scores (x : FVec Ideal S20x20 .f32) (u : FVec Ideal S1x20 .f32) (st : Fin 2 → ℤ) (n : ℕ)
    (h0 : st 0 = n) (h1 : st 1 = 0) (hn : n < 20) (k r : Fin 20) :
    Host.dynamicUpdateSlice x u st updateFits_S20x20_S1x20 (ix2 k r) = if k.val = n then u (ix2 0 r) else x (ix2 k r) := by
  pointwise
  have e0 : Host.clampedStart S20x20 S1x20 rfl st 0 = n := by
    show (min (max (st 0) 0) ((20 - 1 : ℕ) : ℤ)).toNat = n
    omega
  have e1 : Host.clampedStart S20x20 S1x20 rfl st 1 = 0 := by
    show (min (max (st 1) 0) ((20 - 20 : ℕ) : ℤ)).toNat = 0
    omega
  by_cases hk : k.val = n
  · rw [dif_pos (by omega), if_pos hk]
    refine congrArg u ?_
    funext a
    apply Fin.ext
    match a with
    | ⟨0, _⟩ => show k.val - Host.clampedStart S20x20 S1x20 rfl st 0 = 0; omega
    | ⟨1, _⟩ => show r.val - Host.clampedStart S20x20 S1x20 rfl st 1 = r.val; omega
  · rw [dif_neg (by omega), if_neg hk]

section Trip

variable (n : ℕ) (s : State Ideal) (r : Fin 20)

/-- Row `r` of the scores a trip begins with. -/
def rowIn (s : State Ideal) (r : Fin 20) : Scores := fun j => s.main_v7_3 (ix2 r j)

/-- The boxes, coordinate first. -/
def boxesIn (s : State Ideal) : Boxes := fun d j => s.main_v7_0 (ix2 j d)

theorem b2_apply : b2 n s (ix1 r) = rowIn s r (first (rowIn s r)) := by
  pointwise [b2]
  exact top_value s.main_v7_3 r

theorem b3_apply : b3 n s (ix1 r) = BitVec.ofNat 32 (first (rowIn s r)).val := by
  pointwise [b3]
  exact top_index s.main_v7_3 r

theorem b14_apply : b14 n s (ix2 r 0) = BitVec.ofNat 32 (first (rowIn s r)).val := by
  pointwise [b14, b13, b12, b11, b10, b9, b8, b7]
  rw [b3_apply]
  have h : IntOp.cmpi .slt (BitVec.ofNat 32 (first (rowIn s r)).val) 0#32 = 0#1 := by
    have e := toInt_ofNat_small (first (rowIn s r)).val (by omega)
    generalize BitVec.ofNat 32 (first (rowIn s r)).val = w at e ⊢
    unfold IntOp.cmpi
    dsimp only
    rw [BitVec.slt_eq_decide, e, show (0#32 : BitVec 32).toInt = 0 from rfl, decide_eq_false (fun h => absurd h (not_lt.mpr (Int.natCast_nonneg _)))]
    rfl
  rw [h]
  rfl

theorem b15_apply (d : Fin 4) : b15 n s (ix2 r d) = picked (boxesIn s) (rowIn s r) d := by
  unfold b15
  exact gather_row s.main_v7_0 _ r d _ (b14_apply n s r)

open Classical in
theorem b6_apply : b6 n s (ix1 r) = BitVec.ofBool (decide (Kept (rowIn s r))) := by
  pointwise [b6, b5, b4]
  rw [b2_apply]
  unfold Kept
  congr

/-- A trip's scores, row by row. -/
theorem b96_apply (j : Fin 20000) : b96 n s (ix2 r j) = next (boxesIn s) (rowIn s r) j := by
  pointwise [b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b88, b89, b90, b91, b92, b93, b95, b96, b87, b94, b16, K_main_v4]
  rw [b3_apply, b6_apply, b15_apply, b15_apply, b15_apply, b15_apply]
  classical
  refine (select_step j (first (rowIn s r)) _ _ low (rowIn s r j)).trans ?_
  unfold next overlap shared area boxesIn
  exact if_congr Iff.rfl rfl rfl

/-- A trip's box, row by row. -/
theorem b107_apply (d : Fin 4) : b107 n s (ix3 0 r d) = outBox (boxesIn s) (rowIn s r) d := by
  pointwise [b107, b102, b101, b100, b99, b98, b97]
  rw [b6_apply, b15_apply]
  classical
  unfold outBox
  refine (select_decide _ _ _).trans ?_
  exact if_congr Iff.rfl rfl rfl

/-- A trip's score, row by row. -/
theorem b111_apply : b111 n s (ix2 0 r) = outScore (rowIn s r) := by
  pointwise [b111, b106, b105, b104, b103]
  rw [b6_apply, b2_apply]
  classical
  unfold outScore
  refine (select_decide _ _ _).trans ?_
  exact if_congr Iff.rfl rfl rfl

/-- The boxes a trip has put out, itself included. -/
theorem b110_apply (hn : n < 20) (k : Fin 20) (d : Fin 4) :
    b110 n s (ix3 k r d) = if k.val = n then outBox (boxesIn s) (rowIn s r) d else s.main_v7_4 (ix3 k r d) := by
  unfold b110
  refine (put_boxes _ _ _ n (toInt_ofNat_small n (by omega)) rfl rfl hn k r d).trans ?_
  rw [b107_apply]

/-- The scores a trip has put out, itself included. -/
theorem b113_apply (hn : n < 20) (k : Fin 20) :
    b113 n s (ix2 k r) = if k.val = n then outScore (rowIn s r) else s.main_v7_5 (ix2 k r) := by
  unfold b113
  refine (put_scores _ _ _ n (toInt_ofNat_small n (by omega)) rfl hn k r).trans ?_
  rw [b111_apply]

end Trip

/-- The scores a class starts from, in the reference. -/
theorem rowIn_init (a0 : FVec Ideal S20000x4 .f32) (a1 : FVec Ideal S20000x20 .f32) (r : Fin 20) :
    rowIn (init a0 a1) r = start fun j => a1 (ix2 j r) := by
  funext j
  unfold rowIn start low
  show A_main_v3 (F := Ideal) a1 (ix2 r j) = _
  pointwise [A_main_v3, A_main_v2, A_main_v0, K_main_call0_v1, K_main_call0_v0, K_main_cst_0, K_main_v1, K_main_cst]
  rfl

/-- The reference's state before round `n`. -/
def states (a0 : FVec Ideal S20000x4 .f32) (a1 : FVec Ideal S20000x20 .f32) : ℕ → State Ideal
  | 0 => init a0 a1
  | n + 1 => step n (states a0 a1 n)

variable (a0 : FVec Ideal S20000x4 .f32) (a1 : FVec Ideal S20000x20 .f32)

theorem boxesIn_states (n : ℕ) : boxesIn (states a0 a1 n) = fun d j => a0 (ix2 j d) := by
  induction n with
  | zero => rfl
  | succ n ih => exact ih

/-- Before round `n` the scores are the row model's. -/
theorem rowIn_states (n : ℕ) (r : Fin 20) :
    rowIn (states a0 a1 n) r = rounds (fun d j => a0 (ix2 j d)) (start fun j => a1 (ix2 j r)) n := by
  induction n with
  | zero => exact rowIn_init a0 a1 r
  | succ n ih =>
    funext j
    refine (b96_apply n (states a0 a1 n) r j).trans ?_
    rw [boxesIn_states, ih]
    rfl

/-- Before round `n` the boxes of the rounds before it are in place. -/
theorem boxes_states (n : ℕ) (hn : n ≤ 20) (k : Fin 20) (hk : k.val < n) (r : Fin 20) (d : Fin 4) :
    (states a0 a1 n).main_v7_4 (ix3 k r d)
      = outBox (fun d j => a0 (ix2 j d)) (rounds (fun d j => a0 (ix2 j d)) (start fun j => a1 (ix2 j r)) k.val) d := by
  induction n with
  | zero => exact absurd hk (Nat.not_lt_zero _)
  | succ n ih =>
    refine (b110_apply n (states a0 a1 n) r (by omega) k d).trans ?_
    by_cases h : k.val = n
    · rw [if_pos h, boxesIn_states, rowIn_states, h]
    · rw [if_neg h]
      exact ih (by omega) (by omega)

/-- Before round `n` the scores of the rounds before it are in place. -/
theorem scores_states (n : ℕ) (hn : n ≤ 20) (k : Fin 20) (hk : k.val < n) (r : Fin 20) :
    (states a0 a1 n).main_v7_5 (ix2 k r)
      = outScore (rounds (fun d j => a0 (ix2 j d)) (start fun j => a1 (ix2 j r)) k.val) := by
  induction n with
  | zero => exact absurd hk (Nat.not_lt_zero _)
  | succ n ih =>
    refine (b113_apply n (states a0 a1 n) r (by omega) k).trans ?_
    by_cases h : k.val = n
    · rw [if_pos h, rowIn_states, h]
    · rw [if_neg h]
      exact ih (by omega) (by omega)

end Cert.Proof

end
-- ==== Proof.Nms.Agree.lean ====
/- The kernel's results are the reference's. -/
module

public import proofs.«01_k».proof.Proof.Nms.KernelRun
public import proofs.«01_k».proof.Proof.Nms.RefRun
public import proofs.«01_k».proof.Proof.Nms.RefValue

@[expose] public section

set_option maxRecDepth 16384

noncomputable section

namespace Cert.Proof

open Idealize.ShloMosaic Idealize.SL.Sem Cert.ReferenceIdeal Cert.ReferenceIdeal.Gen Cert.ReferenceIdeal.Step

/-- The reference's boxes result is the row model's. -/
theorem ref_boxes (a0 : FVec Ideal S20000x4 .f32) (a1 : FVec Ideal S20000x20 .f32) :
    R_main_v9 (states a0 a1 20) = boxesResult a0 a1 := by
  funext i
  have h0 : (i 0).val < 400 := (i 0).isLt
  unfold R_main_v9
  refine (shapeCast_apply _ _ i (ix3 (⟨(i 0).val / 20, by omega⟩ : Fin 20) (⟨(i 0).val % 20, by omega⟩ : Fin 20) (i 1 : Fin 4)) ?_).trans ?_
  · rw [Shape.rowMajor_val_two, Shape.rowMajor_val_three]
    show ((i 0).val / 20 * 20 + (i 0).val % 20) * 4 + (i 1).val = (i 0).val * 4 + (i 1).val
    omega
  · refine Eq.trans ?_ (boxes_states a0 a1 20 le_rfl ⟨(i 0).val % 20, by omega⟩ (Nat.mod_lt _ (by omega)) ⟨(i 0).val / 20, by omega⟩ (i 1))
    generalize (⟨(i 0).val / 20, _⟩ : Fin 20) = r
    generalize (⟨(i 0).val % 20, _⟩ : Fin 20) = k
    generalize (i 1 : Fin 4) = d
    pointwise

/-- The reference's scores result is the row model's. -/
theorem ref_scores (a0 : FVec Ideal S20000x4 .f32) (a1 : FVec Ideal S20000x20 .f32) :
    R_main_v11 (states a0 a1 20) = scoresResult a0 a1 := by
  funext i
  have h0 : (i 0).val < 400 := (i 0).isLt
  unfold R_main_v11
  refine (shapeCast_apply _ _ i (ix2 (⟨(i 0).val / 20, by omega⟩ : Fin 20) (⟨(i 0).val % 20, by omega⟩ : Fin 20)) ?_).trans ?_
  · rw [Shape.rowMajor_val_one, Shape.rowMajor_val_two]
    show (i 0).val / 20 * 20 + (i 0).val % 20 = (i 0).val
    omega
  · refine Eq.trans ?_ (scores_states a0 a1 20 le_rfl ⟨(i 0).val % 20, by omega⟩ (Nat.mod_lt _ (by omega)) ⟨(i 0).val / 20, by omega⟩)
    generalize (⟨(i 0).val / 20, _⟩ : Fin 20) = r
    generalize (⟨(i 0).val % 20, _⟩ : Fin 20) = k
    pointwise

/-- The two programs' results are equal, as extended reals element by element. -/
theorem agree : @Cert.algebraic_KernelIdeal_ReferenceIdeal Cert.KernelIdeal.Gen.facts Cert.ReferenceIdeal.Gen.facts := by
  intro m ρ m' ρ' _ hargs
  refine ⟨fun c => boxesResult (argBoxes m c) (argScores m c), fun c => scoresResult (argBoxes m c) (argScores m c),
    fun _ => classesResult, kernel_run m ρ, ?_⟩
  refine (θ_run _ _ _).mono (fun r h c => ?_)
    (RefRun.run_iter m' ρ' (fun c => states (argBoxes m c) (argScores m c))
      (fun c => congrArg₂ (init (F := Ideal)) (hargs c).1.symm (hargs c).2.symm) (fun _ _ => rfl))
  exact ⟨(h c).1.trans (ref_boxes _ _), (h c).2.1.trans (ref_scores _ _), (h c).2.2.1, (h c).2.2.2.1, (h c).2.2.2.2⟩

end Cert.Proof

end
-- ==== Proof.lean ====
/- The certificate. -/
module

public import proofs.«01_k».proof.Defs
public import proofs.«01_k».proof.Proof.Nms.Frames
public import proofs.«01_k».proof.Proof.Nms.Agree
public import proofs.«01_k».proof.Proof.Gen.ReferenceIdeal.Step
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, agree⟩

end Cert.Proof

end
